-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "neg_gamma" .f32 0xBA83126F#32 ((-1 / 1000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x513 : Shape := ⟨2, ![2048, 513]⟩
abbrev S2048x1 : Shape := ⟨2, ![2048, 1]⟩
abbrev S2048 : Shape := ⟨1, ![2048]⟩
abbrev S_ : Shape := ⟨0, ![]⟩
abbrev S2048x512 : Shape := ⟨2, ![2048, 512]⟩
abbrev S2048x16x128 : Shape := ⟨3, ![2048, 16, 128]⟩
abbrev S256x512 : Shape := ⟨2, ![256, 512]⟩
abbrev S256x16x128 : Shape := ⟨3, ![256, 16, 128]⟩
abbrev S256x1 : Shape := ⟨2, ![256, 1]⟩
abbrev S256 : Shape := ⟨1, ![256]⟩
abbrev S256x2048 : Shape := ⟨2, ![256, 2048]⟩
abbrev S256x128 : Shape := ⟨2, ![256, 128]⟩
abbrev S256x1x128 : Shape := ⟨3, ![256, 1, 128]⟩
abbrev S1x1 : Shape := ⟨2, ![1, 1]⟩
abbrev S16x128 : Shape := ⟨2, ![16, 128]⟩
abbrev S1x16x128 : Shape := ⟨3, ![1, 16, 128]⟩
abbrev S16x1 : Shape := ⟨2, ![16, 1]⟩
abbrev S16x127 : Shape := ⟨2, ![16, 127]⟩
abbrev S16x2 : Shape := ⟨2, ![16, 2]⟩
abbrev S16x126 : Shape := ⟨2, ![16, 126]⟩
abbrev S16x3 : Shape := ⟨2, ![16, 3]⟩
abbrev S16x125 : Shape := ⟨2, ![16, 125]⟩
abbrev S16x4 : Shape := ⟨2, ![16, 4]⟩
abbrev S16x124 : Shape := ⟨2, ![16, 124]⟩
abbrev S16x5 : Shape := ⟨2, ![16, 5]⟩
abbrev S16x123 : Shape := ⟨2, ![16, 123]⟩
abbrev S16x6 : Shape := ⟨2, ![16, 6]⟩
abbrev S16x122 : Shape := ⟨2, ![16, 122]⟩
abbrev S16x7 : Shape := ⟨2, ![16, 7]⟩
abbrev S16x121 : Shape := ⟨2, ![16, 121]⟩
abbrev S16x8 : Shape := ⟨2, ![16, 8]⟩
abbrev S16x120 : Shape := ⟨2, ![16, 120]⟩
abbrev S16x9 : Shape := ⟨2, ![16, 9]⟩
abbrev S16x119 : Shape := ⟨2, ![16, 119]⟩
abbrev S16x10 : Shape := ⟨2, ![16, 10]⟩
abbrev S16x118 : Shape := ⟨2, ![16, 118]⟩
abbrev S16x11 : Shape := ⟨2, ![16, 11]⟩
abbrev S16x117 : Shape := ⟨2, ![16, 117]⟩
abbrev S16x12 : Shape := ⟨2, ![16, 12]⟩
abbrev S16x116 : Shape := ⟨2, ![16, 116]⟩
abbrev S16x13 : Shape := ⟨2, ![16, 13]⟩
abbrev S16x115 : Shape := ⟨2, ![16, 115]⟩
abbrev S16x14 : Shape := ⟨2, ![16, 14]⟩
abbrev S16x114 : Shape := ⟨2, ![16, 114]⟩
abbrev S16x15 : Shape := ⟨2, ![16, 15]⟩
abbrev S16x113 : Shape := ⟨2, ![16, 113]⟩
abbrev S16x16 : Shape := ⟨2, ![16, 16]⟩
abbrev S16x112 : Shape := ⟨2, ![16, 112]⟩
abbrev S16x32 : Shape := ⟨2, ![16, 32]⟩
abbrev S16x96 : Shape := ⟨2, ![16, 96]⟩
abbrev S16x48 : Shape := ⟨2, ![16, 48]⟩
abbrev S16x80 : Shape := ⟨2, ![16, 80]⟩
abbrev S16x64 : Shape := ⟨2, ![16, 64]⟩
abbrev S15x1 : Shape := ⟨2, ![15, 1]⟩
abbrev S2x1 : Shape := ⟨2, ![2, 1]⟩
abbrev S14x1 : Shape := ⟨2, ![14, 1]⟩
abbrev S3x1 : Shape := ⟨2, ![3, 1]⟩
abbrev S13x1 : Shape := ⟨2, ![13, 1]⟩
abbrev S4x1 : Shape := ⟨2, ![4, 1]⟩
abbrev S12x1 : Shape := ⟨2, ![12, 1]⟩
abbrev S5x1 : Shape := ⟨2, ![5, 1]⟩
abbrev S11x1 : Shape := ⟨2, ![11, 1]⟩
abbrev S6x1 : Shape := ⟨2, ![6, 1]⟩
abbrev S10x1 : Shape := ⟨2, ![10, 1]⟩
abbrev S7x1 : Shape := ⟨2, ![7, 1]⟩
abbrev S9x1 : Shape := ⟨2, ![9, 1]⟩
abbrev S8x1 : Shape := ⟨2, ![8, 1]⟩

abbrev nBuf : Space → Nat
  | .hbm => 36
  | .vmem => 12
  | .smem => 2
  | _ => 0

abbrev bufTy : (tb : Table) → Fin (tcTables nBuf tb) → BufTy
  | .hbm, ⟨0, _⟩ => ⟨S2048x513, .f32⟩
  | .hbm, ⟨1, _⟩ => ⟨S2048x513, .f32⟩
  | .hbm, ⟨2, _⟩ => ⟨S2048x1, .f32⟩
  | .hbm, ⟨3, _⟩ => ⟨S2048, .f32⟩
  | .hbm, ⟨4, _⟩ => ⟨S2048, .i32⟩
  | .hbm, ⟨5, _⟩ => ⟨S2048, .f32⟩
  | .hbm, ⟨6, _⟩ => ⟨S2048, .i32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S2048x513, .f32⟩
  | .hbm, ⟨16, _⟩ => ⟨S2048x512, .f32⟩
  | .hbm, ⟨17, _⟩ => ⟨S2048x1, .f32⟩
  | .hbm, ⟨18, _⟩ => ⟨S2048, .f32⟩
  | .hbm, ⟨19, _⟩ => ⟨S2048, .i32⟩
  | .hbm, ⟨20, _⟩ => ⟨S2048, .f32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S2048x513, .f32⟩
  | .hbm, ⟨31, _⟩ => ⟨S2048x512, .f32⟩
  | .hbm, ⟨32, _⟩ => ⟨S2048x16x128, .f32⟩
  | .hbm, ⟨33, _⟩ => ⟨S2048x1, .f32⟩
  | .hbm, ⟨34, _⟩ => ⟨S1x1, .f32⟩
  | .hbm, ⟨35, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S256x16x128, .f32⟩
  | .local _ .vmem, ⟨4, _⟩ => ⟨S256x16x128, .f32⟩
  | .local _ .vmem, ⟨5, _⟩ => ⟨S256x1, .f32⟩
  | .local _ .vmem, ⟨6, _⟩ => ⟨S256x1, .f32⟩
  | .local _ .vmem, ⟨7, _⟩ => ⟨S256x16x128, .f32⟩
  | .local _ .vmem, ⟨8, _⟩ => ⟨S256x16x128, .f32⟩
  | .local _ .vmem, ⟨9, _⟩ => ⟨S1x1, .f32⟩
  | .local _ .vmem, ⟨10, _⟩ => ⟨S16x128, .f32⟩
  | .local _ .vmem, ⟨11, _⟩ => ⟨S1x1, .f32⟩
  | .local _ .smem, ⟨0, _⟩ => ⟨S256x1, .f32⟩
  | .local _ .smem, ⟨1, _⟩ => ⟨S256x1, .f32⟩
  | _, _ => ⟨S2048x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1_0 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call1_v0 : Ref sig .tc := ⟨.hbm, 19, rfl⟩
abbrev main_call1_v1_0 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc1_stg1_0 : Ref sig .tc := ⟨.smem, 0, rfl⟩
abbrev cc1_stg1_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

@[reducible] def k1_t1_loop : Scf.Loop 32 :=
  let c0_i32_1 : BitVec 32 := 0#32
  let c256_i32 : BitVec 32 := 256#32
  let v3 : BitVec 32 := Scalar.addi c0_i32_1 c256_i32
  let c1_i32 : BitVec 32 := 1#32
  ⟨c0_i32_1, v3, c1_i32⟩
def k1_off1 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let v8 : Index := Scalar.indexCast arg6
  let c0_6 : Index := 0#32
  ![v8.toNat, 0]
def k1_off2 (k1_t1 : Fin k1_t1_loop.trips) : Fin 3 → Nat :=
  let c0_i32_1 : BitVec 32 := 0#32
  let c1_i32 : BitVec 32 := 1#32
  let arg6 : BitVec 32 := Scf.iv c0_i32_1 c1_i32 k1_t1
  let v10 : Index := Scalar.indexCast arg6
  let c0_7 : Index := 0#32
  let c0_8 : Index := 0#32
  ![v10.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== KernelIdeal.lean ====
variable {F : FTy → Type} [FloatOps F] [Named F]
def κ : String → Option EReal := fun
  | "mask" => some ⊥
  | "neg_gamma" => some ((-1 / 1000 : ℝ) : EReal)
  | _ => none
-- ==== ReferenceIdeal.lean ====
abbrev S2048x513 : Shape := ⟨2, ![2048, 513]⟩
abbrev S2048x1 : Shape := ⟨2, ![2048, 1]⟩
abbrev S2048 : Shape := ⟨1, ![2048]⟩
abbrev S_ : Shape := ⟨0, ![]⟩
abbrev S2048x512 : Shape := ⟨2, ![2048, 512]⟩
abbrev S512x2048 : Shape := ⟨2, ![512, 2048]⟩
abbrev S2048x2048 : Shape := ⟨2, ![2048, 2048]⟩
abbrev S4096x2048 : Shape := ⟨2, ![4096, 2048]⟩
abbrev S2048x4096 : Shape := ⟨2, ![2048, 4096]⟩
abbrev S2048x4097 : Shape := ⟨2, ![2048, 4097]⟩
abbrev S4097 : Shape := ⟨1, ![4097]⟩
abbrev S1x4097 : Shape := ⟨2, ![1, 4097]⟩
abbrev S2047x4097 : Shape := ⟨2, ![2047, 4097]⟩
abbrev S4097x4097 : Shape := ⟨2, ![4097, 4097]⟩
abbrev S4097x1 : Shape := ⟨2, ![4097, 1]⟩
abbrev S1 : Shape := ⟨1, ![1]⟩

abbrev nBuf : Space → Nat
  | .hbm => 172
  | .vmem => 0
  | .smem => 0
  | _ => 0

abbrev hbmTy0_0 (i : Nat) : BufTy := match i % 128 with
  | 0 => ⟨S2048x513, .f32⟩
  | 1 => ⟨S2048x513, .f32⟩
  | 2 => ⟨S2048x1, .f32⟩
  | 3 => ⟨S2048, .f32⟩
  | 4 => ⟨S2048, .i32⟩
  | 5 => ⟨S2048, .f32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S2048x513, .f32⟩
  | 16 => ⟨S2048x512, .f32⟩
  | 17 => ⟨S2048x1, .f32⟩
  | 18 => ⟨S2048, .f32⟩
  | 19 => ⟨S2048, .i32⟩
  | 20 => ⟨S2048, .f32⟩
  | 21 => ⟨S2048, .i32⟩
  | 22 => ⟨S_, .i32⟩
  | 23 => ⟨S2048, .i32⟩
  | 24 => ⟨S2048, .i1⟩
  | 25 => ⟨S_, .i32⟩
  | 26 => ⟨S2048, .i32⟩
  | 27 => ⟨S2048, .i32⟩
  | 28 => ⟨S2048, .i32⟩
  | 29 => ⟨S2048x1, .i32⟩
  | 30 => ⟨S2048x513, .f32⟩
  | 31 => ⟨S2048x512, .f32⟩
  | 32 => ⟨S2048x512, .f32⟩
  | 33 => ⟨S_, .f32⟩
  | 34 => ⟨S2048, .f32⟩
  | 35 => ⟨S2048x1, .f32⟩
  | 36 => ⟨S_, .f32⟩
  | 37 => ⟨S2048x1, .f32⟩
  | 38 => ⟨S2048x1, .f32⟩
  | 39 => ⟨S2048x1, .f32⟩
  | 40 => ⟨S2048x512, .f32⟩
  | 41 => ⟨S2048x512, .f32⟩
  | 42 => ⟨S2048x512, .f32⟩
  | 43 => ⟨S_, .f32⟩
  | 44 => ⟨S2048, .f32⟩
  | 45 => ⟨S2048x1, .f32⟩
  | 46 => ⟨S_, .f32⟩
  | 47 => ⟨S2048x1, .f32⟩
  | 48 => ⟨S2048x1, .f32⟩
  | 49 => ⟨S2048x1, .f32⟩
  | 50 => ⟨S2048x512, .f32⟩
  | 51 => ⟨S2048x512, .f32⟩
  | 52 => ⟨S512x2048, .f32⟩
  | 53 => ⟨S2048x2048, .f32⟩
  | 54 => ⟨S_, .f32⟩
  | 55 => ⟨S2048x2048, .f32⟩
  | 56 => ⟨S2048x2048, .f32⟩
  | 57 => ⟨S_, .f32⟩
  | 58 => ⟨S2048x2048, .f32⟩
  | 59 => ⟨S4096x2048, .f32⟩
  | 60 => ⟨S2048x4096, .f32⟩
  | 61 => ⟨S4096x2048, .f32⟩
  | 62 => ⟨S2048x4096, .f32⟩
  | 63 => ⟨S_, .f32⟩
  | 64 => ⟨S2048x1, .f32⟩
  | 65 => ⟨S2048x4097, .f32⟩
  | 66 => ⟨S_, .f32⟩
  | 67 => ⟨S2048, .f32⟩
  | 68 => ⟨S_, .f32⟩
  | 69 => ⟨S2048, .f32⟩
  | 70 => ⟨S2048, .f32⟩
  | 71 => ⟨S2048x1, .f32⟩
  | 72 => ⟨S2048x4097, .f32⟩
  | 73 => ⟨S2048x4097, .f32⟩
  | 74 => ⟨S2048x4097, .f32⟩
  | 75 => ⟨S_, .f32⟩
  | 76 => ⟨S2048, .f32⟩
  | 77 => ⟨S2048x1, .f32⟩
  | 78 => ⟨S2048x4097, .f32⟩
  | 79 => ⟨S2048x4097, .f32⟩
  | 80 => ⟨S4097, .i32⟩
  | 81 => ⟨S_, .i32⟩
  | 82 => ⟨S4097, .i32⟩
  | 83 => ⟨S4097, .i32⟩
  | 84 => ⟨S_, .i32⟩
  | 85 => ⟨S4097, .i32⟩
  | 86 => ⟨S4097, .i1⟩
  | 87 => ⟨S_, .i32⟩
  | 88 => ⟨S4097, .i32⟩
  | 89 => ⟨S4097, .i32⟩
  | 90 => ⟨S4097, .i32⟩
  | 91 => ⟨S1x4097, .f32⟩
  | 92 => ⟨S4097, .f32⟩
  | 93 => ⟨S2047x4097, .f32⟩
  | 94 => ⟨S_, .i32⟩
  | 95 => ⟨S2047x4097, .f32⟩
  | 96 => ⟨S4097, .i32⟩
  | 97 => ⟨S_, .i32⟩
  | 98 => ⟨S4097, .f32⟩
  | 99 => ⟨S_, .i32⟩
  | 100 => ⟨S_, .i1⟩
  | 101 => ⟨S_, .i32⟩
  | 102 => ⟨S1x4097, .f32⟩
  | 103 => ⟨S4097, .f32⟩
  | 104 => ⟨S4097, .f32⟩
  | 105 => ⟨S_, .f32⟩
  | 106 => ⟨S_, .f32⟩
  | 107 => ⟨S_, .f32⟩
  | 108 => ⟨S4097, .f32⟩
  | 109 => ⟨S4097, .f32⟩
  | 110 => ⟨S4097x4097, .i32⟩
  | 111 => ⟨S4097x4097, .i32⟩
  | 112 => ⟨S4097x4097, .i1⟩
  | 113 => ⟨S1x4097, .f32⟩
  | 114 => ⟨S_, .f32⟩
  | 115 => ⟨S_, .f32⟩
  | 116 => ⟨S4097x4097, .f32⟩
  | 117 => ⟨S4097x4097, .f32⟩
  | 118 => ⟨S4097x4097, .f32⟩
  | 119 => ⟨S_, .f32⟩
  | 120 => ⟨S4097, .f32⟩
  | 121 => ⟨S4097x1, .f32⟩
  | 122 => ⟨S4097x4097, .f32⟩
  | 123 => ⟨S4097x4097, .f32⟩
  | 124 => ⟨S4097x4097, .f32⟩
  | 125 => ⟨S_, .f32⟩
  | 126 => ⟨S4097, .f32⟩
  | 127 => ⟨S4097x1, .f32⟩
  | _ => ⟨S2048x513, .f32⟩

abbrev hbmTy0_1 (i : Nat) : BufTy := match i % 128 with
  | 0 => ⟨S4097x1, .f32⟩
  | 1 => ⟨S4097x1, .f32⟩
  | 2 => ⟨S4097, .f32⟩
  | 3 => ⟨S_, .f32⟩
  | 4 => ⟨S_, .f32⟩
  | 5 => ⟨S_, .f32⟩
  | 6 => ⟨S_, .f32⟩
  | 7 => ⟨S_, .i32⟩
  | 8 => ⟨S4097, .i32⟩
  | 9 => ⟨S4097, .i1⟩
  | 10 => ⟨S_, .i32⟩
  | 11 => ⟨S4097, .i32⟩
  | 12 => ⟨S4097, .i32⟩
  | 13 => ⟨S4097, .i32⟩
  | 14 => ⟨S4097x1, .i32⟩
  | 15 => ⟨S4097, .f32⟩
  | 16 => ⟨S4097, .f32⟩
  | 17 => ⟨S4097, .f32⟩
  | 18 => ⟨S4097, .f32⟩
  | 19 => ⟨S_, .i32⟩
  | 20 => ⟨S_, .i32⟩
  | 21 => ⟨S_, .f32⟩
  | 22 => ⟨S_, .f32⟩
  | 23 => ⟨S_, .f32⟩
  | 24 => ⟨S_, .f32⟩
  | 25 => ⟨S4097, .f32⟩
  | 26 => ⟨S_, .f32⟩
  | 27 => ⟨S_, .f32⟩
  | 28 => ⟨S_, .f32⟩
  | 29 => ⟨S4097, .f32⟩
  | 30 => ⟨S4097, .f32⟩
  | 31 => ⟨S_, .f32⟩
  | 32 => ⟨S_, .f32⟩
  | 33 => ⟨S1, .f32⟩
  | 34 => ⟨S4097, .f32⟩
  | 35 => ⟨S4097, .f32⟩
  | 36 => ⟨S4097, .f32⟩
  | 37 => ⟨S_, .f32⟩
  | 38 => ⟨S_, .f32⟩
  | 39 => ⟨S1, .f32⟩
  | 40 => ⟨S1, .f32⟩
  | 41 => ⟨S1, .f32⟩
  | 42 => ⟨S_, .f32⟩
  | 43 => ⟨S_, .f32⟩
  | _ => ⟨S2048x513, .f32⟩

abbrev hbmTy (i : Nat) : BufTy := match i / 128 with
  | 0 => hbmTy0_0 i
  | 1 => hbmTy0_1 i
  | _ => ⟨S2048x513, .f32⟩

abbrev bufTy : (tb : Table) → Fin (tcTables nBuf tb) → BufTy
  | .hbm, ⟨i, _⟩ => hbmTy i
  | _, _ => ⟨S2048x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1_0 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call1_v0 : Ref sig .tc := ⟨.hbm, 19, rfl⟩
abbrev main_call1_v1_0 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71_0 : Ref sig .tc := ⟨.hbm, 95, rfl⟩
abbrev main_v71_1 : Ref sig .tc := ⟨.hbm, 96, rfl⟩
abbrev main_v71_2 : Ref sig .tc := ⟨.hbm, 97, rfl⟩
abbrev main_v71_3 : Ref sig .tc := ⟨.hbm, 98, rfl⟩
abbrev main_while0c_c_25 : Ref sig .tc := ⟨.hbm, 99, rfl⟩
abbrev main_while0c_v89 : Ref sig .tc := ⟨.hbm, 100, rfl⟩
abbrev main_while0b_call3_c : Ref sig .tc := ⟨.hbm, 101, rfl⟩
abbrev main_while0b_call3_v0 : Ref sig .tc := ⟨.hbm, 102, rfl⟩
abbrev main_while0b_v89 : Ref sig .tc := ⟨.hbm, 103, rfl⟩
abbrev main_while0b_v90 : Ref sig .tc := ⟨.hbm, 104, rfl⟩
abbrev main_while0b_cst_25 : Ref sig .tc := ⟨.hbm, 105, rfl⟩
abbrev main_while0b_cst_26 : Ref sig .tc := ⟨.hbm, 106, rfl⟩
abbrev main_while0b_v91 : Ref sig .tc := ⟨.hbm, 107, rfl⟩
abbrev main_while0b_v92 : Ref sig .tc := ⟨.hbm, 108, rfl⟩
abbrev main_while0b_v93 : Ref sig .tc := ⟨.hbm, 109, rfl⟩
abbrev main_while0b_v94 : Ref sig .tc := ⟨.hbm, 110, rfl⟩
abbrev main_while0b_v95 : Ref sig .tc := ⟨.hbm, 111, rfl⟩
abbrev main_while0b_v96 : Ref sig .tc := ⟨.hbm, 112, rfl⟩
abbrev main_while0b_v97 : Ref sig .tc := ⟨.hbm, 113, rfl⟩
abbrev main_while0b_cst_27 : Ref sig .tc := ⟨.hbm, 114, rfl⟩
abbrev main_while0b_call4_v0 : Ref sig .tc := ⟨.hbm, 115, rfl⟩
abbrev main_while0b_call4_v1 : Ref sig .tc := ⟨.hbm, 116, rfl⟩
abbrev main_while0b_call4_v2 : Ref sig .tc := ⟨.hbm, 117, rfl⟩
abbrev main_while0b_v98 : Ref sig .tc := ⟨.hbm, 118, rfl⟩
abbrev main_while0b_cst_28 : Ref sig .tc := ⟨.hbm, 119, rfl⟩
abbrev main_while0b_v99 : Ref sig .tc := ⟨.hbm, 120, rfl⟩
abbrev main_while0b_v100 : Ref sig .tc := ⟨.hbm, 121, rfl⟩
abbrev main_while0b_v101 : Ref sig .tc := ⟨.hbm, 122, rfl⟩
abbrev main_while0b_v102 : Ref sig .tc := ⟨.hbm, 123, rfl⟩
abbrev main_while0b_v103 : Ref sig .tc := ⟨.hbm, 124, rfl⟩
abbrev main_while0b_cst_29 : Ref sig .tc := ⟨.hbm, 125, rfl⟩
abbrev main_while0b_v104 : Ref sig .tc := ⟨.hbm, 126, rfl⟩
abbrev main_while0b_v105 : Ref sig .tc := ⟨.hbm, 127, rfl⟩
abbrev main_while0b_v106 : Ref sig .tc := ⟨.hbm, 128, rfl⟩
abbrev main_while0b_v107 : Ref sig .tc := ⟨.hbm, 129, rfl⟩
abbrev main_while0b_v108 : Ref sig .tc := ⟨.hbm, 130, rfl⟩
abbrev main_while0b_cst_30 : Ref sig .tc := ⟨.hbm, 131, rfl⟩
abbrev main_while0b_cst_31 : Ref sig .tc := ⟨.hbm, 132, rfl⟩
abbrev main_while0b_v109 : Ref sig .tc := ⟨.hbm, 133, rfl⟩
abbrev main_while0b_v110 : Ref sig .tc := ⟨.hbm, 134, rfl⟩
abbrev main_while0b_c_32 : Ref sig .tc := ⟨.hbm, 135, rfl⟩
abbrev main_while0b_v111 : Ref sig .tc := ⟨.hbm, 136, rfl⟩
abbrev main_while0b_v112 : Ref sig .tc := ⟨.hbm, 137, rfl⟩
abbrev main_while0b_c_33 : Ref sig .tc := ⟨.hbm, 138, rfl⟩
abbrev main_while0b_v113 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_v117 : Ref sig .tc := ⟨.hbm, 143, rfl⟩
abbrev main_while0b_v118 : Ref sig .tc := ⟨.hbm, 144, rfl⟩
abbrev main_while0b_v119 : Ref sig .tc := ⟨.hbm, 145, rfl⟩
abbrev main_while0b_v120 : Ref sig .tc := ⟨.hbm, 146, rfl⟩
abbrev main_while0b_c_34 : Ref sig .tc := ⟨.hbm, 147, rfl⟩
abbrev main_while0b_v121 : Ref sig .tc := ⟨.hbm, 148, rfl⟩
abbrev main_cst_16 : Ref sig .tc := ⟨.hbm, 149, rfl⟩
abbrev main_cst_17 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_cst_18 : Ref sig .tc := ⟨.hbm, 154, rfl⟩
abbrev main_cst_19 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_cst_20 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_cst_21 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩

abbrev nD : Nat := 1
abbrev τ : Topo := Topo.v7x

variable {F : FTy → Type} [FloatOps F]

abbrev main_while0_count : Scf.Loop 32 := ⟨0#32, 2047#32, 1#32⟩
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Value
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! # The first launch: the exponentials and the scales, block by block -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of input 0 holds that input's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 1 holds that input's block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x512 := Rect.unit (s := S256x512) ![0, 0] S256x512.size inb_S256x512_S256x512_0_0
abbrev r0_1 : Rect S2048x512 := Rect.unit (s := S2048x512) ![0, 0] S2048x512.size inb_S2048x512_S2048x512_0_0
abbrev r0_2 : Rect S256x16x128 := Rect.unit (s := S256x16x128) ![0, 0, 0] S256x1x128.size inb_S256x16x128_S256x1x128_0_0_0
abbrev r0_3 : Rect S256x16x128 := Rect.unit (s := S256x16x128) ![0, 1, 0] S256x1x128.size inb_S256x16x128_S256x1x128_0_1_0
abbrev r0_4 : Rect S256x16x128 := Rect.unit (s := S256x16x128) ![0, 2, 0] S256x1x128.size inb_S256x16x128_S256x1x128_0_2_0
abbrev r0_5 : Rect S256x16x128 := Rect.unit (s := S256x16x128) ![0, 3, 0] S256x1x128.size inb_S256x16x128_S256x1x128_0_3_0
abbrev r0_6 : Rect S256x16x128 := Rect.unit (s := S256x16x128) ![0, 4, 0] S256x1x128.size inb_S256x16x128_S256x1x128_0_4_0
abbrev r0_7 : Rect S256x16x128 := Rect.unit (s := S256x16x128) ![0, 5, 0] S256x1x128.size inb_S256x16x128_S256x1x128_0_5_0
abbrev r0_8 : Rect S256x16x128 := Rect.unit (s := S256x16x128) ![0, 6, 0] S256x1x128.size inb_S256x16x128_S256x1x128_0_6_0
abbrev r0_9 : Rect S256x16x128 := Rect.unit (s := S256x16x128) ![0, 7, 0] S256x1x128.size inb_S256x16x128_S256x1x128_0_7_0
abbrev r0_10 : Rect S256x16x128 := Rect.unit (s := S256x16x128) ![0, 8, 0] S256x1x128.size inb_S256x16x128_S256x1x128_0_8_0
abbrev r0_11 : Rect S256x16x128 := Rect.unit (s := S256x16x128) ![0, 9, 0] S256x1x128.size inb_S256x16x128_S256x1x128_0_9_0
abbrev r0_12 : Rect S256x16x128 := Rect.unit (s := S256x16x128) ![0, 10, 0] S256x1x128.size inb_S256x16x128_S256x1x128_0_10_0
abbrev r0_13 : Rect S256x16x128 := Rect.unit (s := S256x16x128) ![0, 11, 0] S256x1x128.size inb_S256x16x128_S256x1x128_0_11_0
abbrev r0_14 : Rect S256x16x128 := Rect.unit (s := S256x16x128) ![0, 12, 0] S256x1x128.size inb_S256x16x128_S256x1x128_0_12_0
abbrev r0_15 : Rect S256x16x128 := Rect.unit (s := S256x16x128) ![0, 13, 0] S256x1x128.size inb_S256x16x128_S256x1x128_0_13_0
abbrev r0_16 : Rect S256x16x128 := Rect.unit (s := S256x16x128) ![0, 14, 0] S256x1x128.size inb_S256x16x128_S256x1x128_0_14_0
abbrev r0_17 : Rect S256x16x128 := Rect.unit (s := S256x16x128) ![0, 15, 0] S256x1x128.size inb_S256x16x128_S256x1x128_0_15_0
abbrev r0_18 : Rect S256x1 := Rect.unit (s := S256x1) ![0, 0] S256x1.size inb_S256x1_S256x1_0_0

/-! ## What the body leaves in each output window's buffer -/

/-- The exponentials of the block's costs, from the two blocks read. -/
def k0_exp (x0 : Vec F S256x512 .f32) (x1 : Vec F S2048x512 .f32) : FVec F S256x2048 .f32 :=
  k0_pay8 (View.ld x0 r0_0) (View.ld x1 r0_1)

/-- What the body leaves in window 2's buffer: its sixteen stores, last first. -/
def out0_2 (x0 : Vec F S256x512 .f32) (x1 : Vec F S2048x512 .f32) : Vec F S256x16x128 .f32 :=
  View.canon [⟨r0_17, k0_pay6 (k0_exp x0 x1)⟩,
    ⟨r0_16, k0_pay5 (k0_exp x0 x1)⟩,
    ⟨r0_15, k0_pay4 (k0_exp x0 x1)⟩,
    ⟨r0_14, k0_pay3 (k0_exp x0 x1)⟩,
    ⟨r0_13, k0_pay2 (k0_exp x0 x1)⟩,
    ⟨r0_12, k0_pay1 (k0_pay20 (k0_exp x0 x1))⟩,
    ⟨r0_11, k0_pay19 (k0_exp x0 x1)⟩,
    ⟨r0_10, k0_pay18 (k0_exp x0 x1)⟩,
    ⟨r0_9, k0_pay17 (k0_exp x0 x1)⟩,
    ⟨r0_8, k0_pay16 (k0_exp x0 x1)⟩,
    ⟨r0_7, k0_pay15 (k0_exp x0 x1)⟩,
    ⟨r0_6, k0_pay14 (k0_exp x0 x1)⟩,
    ⟨r0_5, k0_pay13 (k0_pay12 (View.ld x0 r0_0) (View.ld x1 r0_1))⟩,
    ⟨r0_4, k0_pay11 (View.ld x0 r0_0) (View.ld x1 r0_1)⟩,
    ⟨r0_3, k0_pay10 (View.ld x0 r0_0) (View.ld x1 r0_1)⟩,
    ⟨r0_2, k0_pay9 (View.ld x0 r0_0) (View.ld x1 r0_1)⟩]

/-- Its stores tile the buffer (checked by evaluation), so they cover it. -/
theorem cover0_2 (p0 : Vec F S256x1x128 .f32) (p1 : Vec F S256x1x128 .f32) (p2 : Vec F S256x1x128 .f32) (p3 : Vec F S256x1x128 .f32) (p4 : Vec F S256x1x128 .f32) (p5 : Vec F S256x1x128 .f32) (p6 : Vec F S256x1x128 .f32) (p7 : Vec F S256x1x128 .f32) (p8 : Vec F S256x1x128 .f32) (p9 : Vec F S256x1x128 .f32) (p10 : Vec F S256x1x128 .f32) (p11 : Vec F S256x1x128 .f32) (p12 : Vec F S256x1x128 .f32) (p13 : Vec F S256x1x128 .f32) (p14 : Vec F S256x1x128 .f32) (p15 : Vec F S256x1x128 .f32) (y : S256x16x128.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩, ⟨r0_9, p8⟩, ⟨r0_8, p9⟩, ⟨r0_7, p10⟩, ⟨r0_6, p11⟩, ⟨r0_5, p12⟩, ⟨r0_4, p13⟩, ⟨r0_3, p14⟩, ⟨r0_2, p15⟩] : List (View.Piece (Elt F) S256x16x128 .f32)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩, ⟨r0_9, p8⟩, ⟨r0_8, p9⟩, ⟨r0_7, p10⟩, ⟨r0_6, p11⟩, ⟨r0_5, p12⟩, ⟨r0_4, p13⟩, ⟨r0_3, p14⟩, ⟨r0_2, p15⟩] S256x1x128.size (by rfl) y

/-- What the body leaves in window 3's buffer: its one store. -/
def out0_3 (x0 : Vec F S256x512 .f32) (x1 : Vec F S2048x512 .f32) : Vec F S256x1 .f32 :=
  View.canon [⟨r0_18, k0_pay7 (k0_exp x0 x1)⟩]

/-- Its stores tile the buffer (checked by evaluation), so they cover it. -/
theorem cover0_3 (p0 : Vec F S256x1 .f32) (y : S256x1.Idx) :
    ∃ pc ∈ ([⟨r0_18, p0⟩] : List (View.Piece (Elt F) S256x1 .f32)), y ∈ pc.1.set :=
  View.cover_of_tiled [⟨r0_18, p0⟩] S256x1.size (by rfl) y

/-! ## The body's triple -/

set_option maxHeartbeats 1000000 in
/-- The body, from the two blocks in the inputs' buffers, leaves these as they were and the outputs' buffers at `out0_2` and `out0_3` of the blocks. -/
theorem sound_kernel0 (c : Dev nD) (E : Set ℕ) (i : grid0.Coords) (arg1 : Memref sig .tc .vmem S256x512 .f32) (harg1 : arg1.IsWhole) (arg2 : Memref sig .tc .vmem S2048x512 .f32) (harg2 : arg2.IsWhole) (arg3 : Memref sig .tc .vmem S256x16x128 .f32) (harg3 : arg3.IsWhole) (arg4 : Memref sig .tc .vmem S256x1 .f32) (harg4 : arg4.IsWhole)
    (x0 : Vec F S256x512 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__cost_kernel i arg1 harg1 arg2 harg2 arg3 harg3 arg4 harg4) K := by
  simp only [cc0__cost_kernel_eq_skeleton]; unfold cc0__cost_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _ _ _ _ _ _ _ _ _)).trans ?_
    rfl
  iexists _; isplitr
  swap; · iexact H3
  ipureintro
  refine (View.read_writes_eq_canon _ _ _ (cover0_3 _)).trans ?_
  rfl

/-! ## The pipeline's proof data -/

/-- The proof data of the first launch: the arrays as entered; after the body at a point the two input blocks in
    place and the two outputs at `out0_2` and `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body at point `t`, named. -/
theorem defs₀_row0 (t : Fin cfg0.N) :
    defs₀ (F := F) .tc cfg0.body (cfg0.bodyArgs t (cfg0.slots t)) = bodyAt0 t := by
  unfold defs₀; rw [Defs.onTc_tc]

/-- The body's obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.LogDomain.lean ====
module

public import Idealize.ShloMosaic.PureOps.Ideal
public import Mathlib.Analysis.SpecialFunctions.Log.Basic

@[expose] public section

noncomputable section

/-! # Weights and their logarithms

    A weight is a nonnegative real, held by its logarithm in the extended reals (`⊥` for the weight zero). The two ways
    the programs add weights in this form, by pairs and over a list about the maximum, are exact. -/

namespace Cert.Weights

open Idealize.ShloMosaic
open scoped NNReal

/-- A weight is nonnegative. -/
theorem nn (u : ℝ≥0) : 0 ≤ u := bot_le

/-- The logarithm of a weight. -/
def L (u : ℝ≥0) : EReal := Ideal.log ((u : ℝ) : EReal)

/-- The exponential of a real, as a weight. -/
def E (c : ℝ) : ℝ≥0 := ⟨Real.exp c, (Real.exp_pos c).le⟩

/-- An exponential is a positive weight. -/
theorem E_pos (c : ℝ) : 0 < E c := by
  rw [← NNReal.coe_pos]
  exact Real.exp_pos c

/-- `E` as a real number. -/
theorem E_coe (c : ℝ) : ((E c : ℝ≥0) : ℝ) = Real.exp c := rfl

/-- The weight zero has logarithm `⊥`. -/
theorem L_zero : L 0 = ⊥ := by
  show (if (0 : ℝ) ≤ 0 then (⊥ : EReal) else (Real.log 0 : EReal)) = ⊥
  rw [if_pos le_rfl]

/-- A positive weight has the real logarithm. -/
theorem L_pos {u : ℝ≥0} (h : 0 < u) : L u = ((Real.log u : ℝ) : EReal) := by
  have h' : ¬ ((u : ℝ) ≤ 0) := not_le.mpr (NNReal.coe_pos.mpr h)
  show (if (u : ℝ) ≤ 0 then (⊥ : EReal) else (Real.log u : EReal)) = _
  rw [if_neg h']

/-- The weight one has logarithm zero. -/
theorem L_one : L 1 = 0 := by
  rw [L_pos one_pos]; simp

/-- `exp` undoes `L`. -/
theorem exp_L (u : ℝ≥0) : Ideal.exp (L u) = ((u : ℝ) : EReal) := by
  rcases eq_or_lt_of_le (nn u) with h | h
  · subst h; rw [L_zero]; simp
  · rw [L_pos h]
    show ((Real.exp (Real.log u) : ℝ) : EReal) = _
    rw [Real.exp_log (NNReal.coe_pos.mpr h)]

/-- Adding a real to a logarithm multiplies the weight. -/
theorem L_add_coe (u : ℝ≥0) (c : ℝ) : L u + (c : EReal) = L (u * E c) := by
  rcases eq_or_lt_of_le (nn u) with h | h
  · subst h; rw [zero_mul, L_zero]; simp
  · rw [L_pos h, L_pos (mul_pos h (E_pos c)), NNReal.coe_mul, E_coe,
      Real.log_mul (NNReal.coe_pos.mpr h).ne' (Real.exp_pos c).ne', Real.log_exp, EReal.coe_add]

/-- Taking a real from a logarithm multiplies the weight. -/
theorem L_sub_coe (u : ℝ≥0) (c : ℝ) : L u - (c : EReal) = L (u * E (-c)) := by
  rw [sub_eq_add_neg, ← EReal.coe_neg, L_add_coe]

/-- A larger weight has the larger logarithm. -/
theorem L_mono {u v : ℝ≥0} (h : u ≤ v) : L u ≤ L v := by
  rcases eq_or_lt_of_le (nn u) with hu | hu
  · subst hu; rw [L_zero]; exact bot_le
  · rw [L_pos hu, L_pos (lt_of_lt_of_le hu h), EReal.coe_le_coe_iff]
    exact Real.log_le_log (NNReal.coe_pos.mpr hu) (NNReal.coe_le_coe.mpr h)

/-- The larger of two logarithms. -/
theorem max_L (u v : ℝ≥0) : max (L u) (L v) = L (max u v) := by
  rcases le_total u v with h | h
  · rw [max_eq_right h, max_eq_right (L_mono h)]
  · rw [max_eq_left h, max_eq_left (L_mono h)]

/-- The exponential of a difference of logarithms is a quotient of weights. -/
theorem exp_L_sub {u m : ℝ≥0} (h : u ≤ m) : Ideal.exp (L u - L m) = (((u / m : ℝ≥0) : ℝ) : EReal) := by
  rcases eq_or_lt_of_le (nn m) with hm | hm
  · subst hm
    have hu : u = 0 := le_antisymm h (nn u)
    subst hu
    rw [L_zero, div_zero]; simp
  · rw [L_pos hm, L_sub_coe, exp_L]
    congr 2
    rw [div_eq_mul_inv]
    congr 1
    apply NNReal.eq
    rw [E_coe, Real.exp_neg, Real.exp_log (NNReal.coe_pos.mpr hm), NNReal.coe_inv]

/-- Putting the maximum back: the maximum's logarithm and that of the sum in its units. -/
theorem L_add_log {m S : ℝ≥0} (h : m ≤ S) (h0 : m = 0 → S = 0) :
    L m + Ideal.log (((S / m : ℝ≥0) : ℝ) : EReal) = L S := by
  rcases eq_or_lt_of_le (nn m) with hm | hm
  · subst hm
    rw [h0 rfl, L_zero]; simp
  · have hS : 0 < S := lt_of_lt_of_le hm h
    have hd : 0 < S / m := div_pos hS hm
    show L m + L (S / m) = L S
    rw [L_pos hm, L_pos hd, L_pos hS, ← EReal.coe_add, NNReal.coe_div,
      Real.log_div (NNReal.coe_pos.mpr hS).ne' (NNReal.coe_pos.mpr hm).ne']
    congr 1; ring_nf

/-- The fold of maxima over logarithms. -/
theorem foldl_max_L (u : ℝ≥0) (us : List ℝ≥0) :
    (us.map L).foldl (fun a y => max a y) (L u) = L (us.foldl (fun a y => max a y) u) := by
  induction us generalizing u with
  | nil => rfl
  | cons v us ih => rw [List.map_cons, List.foldl_cons, List.foldl_cons, max_L, ih]

/-- The fold of maxima is at least its start and at least each member. -/
theorem le_foldl_max (u : ℝ≥0) (us : List ℝ≥0) :
    u ≤ us.foldl (fun a y => max a y) u ∧ ∀ v ∈ us, v ≤ us.foldl (fun a y => max a y) u := by
  induction us generalizing u with
  | nil => simp
  | cons w us ih =>
    rw [List.foldl_cons]
    refine ⟨le_trans (le_max_left u w) (ih _).1, fun v hv => ?_⟩
    rcases List.mem_cons.mp hv with rfl | hv
    · exact le_trans (le_max_right u v) (ih _).1
    · exact (ih _).2 v hv

/-- The fold of maxima is at most the sum. -/
theorem foldl_max_le_sum (u : ℝ≥0) (us : List ℝ≥0) : us.foldl (fun a y => max a y) u ≤ u + us.sum := by
  induction us generalizing u with
  | nil => simp
  | cons w us ih =>
    rw [List.foldl_cons, List.sum_cons, ← add_assoc]
    exact (ih _).trans (add_le_add_left (max_le (le_add_of_nonneg_right (nn w)) (le_add_of_nonneg_left (nn u))) _)

/-- A sum of weights none of which is above zero is zero. -/
theorem sum_eq_zero {u : ℝ≥0} {us : List ℝ≥0} (h : us.foldl (fun a y => max a y) u = 0) : u + us.sum = 0 := by
  have h1 := le_foldl_max u us
  rw [h] at h1
  have hu : u = 0 := le_antisymm h1.1 (nn u)
  have hs : us.sum = 0 := List.sum_eq_zero fun v hv => le_antisymm (h1.2 v hv) (nn v)
  rw [hu, hs, add_zero]

/-- The running sum of the quotients. -/
theorem foldl_add_exp (m a : ℝ≥0) (us : List ℝ≥0) (h : ∀ v ∈ us, v ≤ m) :
    (us.map L).foldl (fun a y => a + Ideal.exp (y - L m)) (((a / m : ℝ≥0) : ℝ) : EReal) = ((((a + us.sum) / m : ℝ≥0) : ℝ) : EReal) := by
  induction us generalizing a with
  | nil => simp
  | cons w us ih =>
    rw [List.map_cons, List.foldl_cons, exp_L_sub (h w (by simp)), ← EReal.coe_add, ← NNReal.coe_add, ← add_div,
      ih _ (fun v hv => h v (by simp [hv])), List.sum_cons, add_assoc]

/-- The log-sum-exp of a list about its maximum adds the weights. -/
theorem lseList (u : ℝ≥0) (us : List ℝ≥0) :
    (us.map L).foldl (fun a y => max a y) (L u)
      + Ideal.log ((us.map L).foldl (fun a y => a + Ideal.exp (y - (us.map L).foldl (fun a y => max a y) (L u)))
          (Ideal.exp (L u - (us.map L).foldl (fun a y => max a y) (L u))))
    = L (u + us.sum) := by
  rw [foldl_max_L, exp_L_sub (le_foldl_max u us).1, foldl_add_exp _ _ _ (le_foldl_max u us).2]
  exact L_add_log (foldl_max_le_sum u us) sum_eq_zero

/-- The real case of the sum of two weights about the larger. -/
theorem log_add_real {a b : ℝ} : max a b + Real.log (1 + Real.exp (-|a - b|)) = Real.log (Real.exp a + Real.exp b) := by
  have key : ∀ a b : ℝ, b ≤ a → a + Real.log (1 + Real.exp (-(a - b))) = Real.log (Real.exp a + Real.exp b) := by
    intro a b _
    have h : Real.exp a + Real.exp b = Real.exp a * (1 + Real.exp (-(a - b))) := by
      rw [mul_add, mul_one, ← Real.exp_add]; congr 2; ring
    rw [h, Real.log_mul (Real.exp_pos a).ne' (by positivity), Real.log_exp]
  rcases le_total b a with h | h
  · rw [max_eq_left h, abs_of_nonneg (sub_nonneg.mpr h), key a b h]
  · rw [max_eq_right h, abs_sub_comm, abs_of_nonneg (sub_nonneg.mpr h), key b a h, add_comm]

/-- `log1p` of a nonnegative real. -/
theorem log1p_coe {x : ℝ} (h : 0 ≤ x) : Ideal.log1p (x : EReal) = ((Real.log (1 + x) : ℝ) : EReal) := by
  have h' : ¬ (1 + x ≤ 0) := by linarith
  rw [Ideal.log1p, ← EReal.coe_one, ← EReal.coe_add]
  show (if 1 + x ≤ 0 then (⊥ : EReal) else (Real.log (1 + x) : EReal)) = _
  rw [if_neg h']

/-- `log1p` of zero. -/
theorem log1p_zero : Ideal.log1p 0 = 0 := by
  rw [← EReal.coe_zero, log1p_coe le_rfl, add_zero, Real.log_one]

/-- The larger of two reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The smaller of two reals. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The exponential of minus the distance of two reals. -/
theorem exp_neg_dist (a b : ℝ) :
    Ideal.log1p (Ideal.exp (0 - max ((a : EReal) - b) (-((a : EReal) - b)))) = ((Real.log (1 + Real.exp (-|a - b|)) : ℝ) : EReal) := by
  rw [← EReal.coe_sub, ← EReal.coe_neg, max_coe, zero_sub, ← EReal.coe_neg]
  show Ideal.log1p ((Real.exp _ : ℝ) : EReal) = _
  rw [log1p_coe (Real.exp_pos _).le]
  rfl

/-- The sum of two weights about the larger. -/
theorem plse_L (u v : ℝ≥0) :
    max (L u) (L v) + Ideal.log1p (Ideal.exp (0 - max (L u - L v) (-(L u - L v)))) = L (u + v) := by
  rcases eq_or_lt_of_le (nn u) with hu | hu
  · subst hu
    rw [zero_add, L_zero, EReal.bot_sub]
    simp [log1p_zero]
  · rcases eq_or_lt_of_le (nn v) with hv | hv
    · subst hv
      rw [add_zero, L_zero, L_pos hu, EReal.coe_sub_bot]
      simp [log1p_zero]
    · rw [L_pos hu, L_pos hv, L_pos (add_pos hu hv), exp_neg_dist, max_coe, ← EReal.coe_add, log_add_real,
        Real.exp_log (NNReal.coe_pos.mpr hu), Real.exp_log (NNReal.coe_pos.mpr hv), NNReal.coe_add]

/-- The kernel's step weight: minus the smaller of two costs and its correction is the log of the sum of the two
    exponentials. -/
theorem step_weight (s r : ℝ) :
    (0 - min (s : EReal) (r : EReal)) + Ideal.log1p (Ideal.exp (0 - max ((s : EReal) - r) (-((s : EReal) - r))))
      = L (E (-s) + E (-r)) := by
  rw [exp_neg_dist, min_coe, zero_sub, ← EReal.coe_neg, ← EReal.coe_add, L_pos (add_pos (E_pos _) (E_pos _)), NNReal.coe_add,
    E_coe, E_coe, ← log_add_real, max_neg_neg]
  congr 5
  rw [← abs_neg]; congr 1; ring_nf

/-- The product of weights in the log domain, one factor positive. -/
theorem L_add_L {u v : ℝ≥0} (h : 0 < v) : L u + L v = L (u * v) := by
  rw [L_pos h, L_add_coe]
  congr 2
  exact NNReal.eq (by rw [E_coe, Real.exp_log (NNReal.coe_pos.mpr h)])

end Cert.Weights

end
-- ==== Proof.Rows.lean ====
module

public import proofs.«01_k».proof.Proof.LogDomain
public import Mathlib.Algebra.BigOperators.Group.Finset.Basic

@[expose] public section

noncomputable section

/-! # Rows: the log-sum-exp, the softmax and the unit rows

    What the reference computes of a row, as plain mathematics over a finite set of positions. -/

namespace Cert.Weights

open Idealize.ShloMosaic
open scoped NNReal

variable {ι : Type*} [Fintype ι]

/-- A sum of reals, taken in the extended reals. -/
theorem coe_sum (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of the logarithms is the logarithm of the largest weight. -/
theorem fold_max_L (s : Finset ι) (u : ι → ℝ≥0) : s.fold max (⊥ : EReal) (fun i => L (u i)) = L (s.sup u) := by
  classical
  induction s using Finset.induction_on with
  | empty => rw [Finset.fold_empty, Finset.sup_empty]; exact L_zero.symm
  | insert a s ha ih => rw [Finset.fold_insert ha, Finset.sup_insert, ih, max_L]

/-- The largest weight is at most the sum. -/
theorem sup_le_sum (u : ι → ℝ≥0) : Finset.univ.sup u ≤ ∑ i, u i :=
  Finset.sup_le fun i hi => Finset.single_le_sum (f := u) (fun j _ => nn (u j)) hi

/-- If the largest weight is zero so is the sum. -/
theorem sum_zero_of_sup {u : ι → ℝ≥0} (h : Finset.univ.sup u = 0) : ∑ i, u i = 0 :=
  Finset.sum_eq_zero fun i hi => le_antisymm (h ▸ Finset.le_sup (f := u) hi) (nn (u i))

/-- The sum of the exponentials about the largest. -/
theorem sum_exp_L (u : ι → ℝ≥0) :
    ∑ i, Ideal.exp (L (u i) - L (Finset.univ.sup u)) = ((((∑ i, u i) / Finset.univ.sup u : ℝ≥0) : ℝ) : EReal) := by
  rw [Finset.sum_congr rfl fun i hi => exp_L_sub (Finset.le_sup (f := u) hi), coe_sum, ← NNReal.coe_sum, Finset.sum_div]

/-- The log-sum-exp of a row about its maximum. -/
theorem lseRow (f : ι → EReal) (u : ι → ℝ≥0) (hf : ∀ i, f i = L (u i)) :
    Finset.univ.fold max (⊥ : EReal) f + Ideal.log (0 + ∑ i, Ideal.exp (f i - Finset.univ.fold max (⊥ : EReal) f)) = L (∑ i, u i) := by
  obtain rfl : f = fun i => L (u i) := funext hf
  rw [fold_max_L, sum_exp_L, zero_add]
  exact L_add_log (sup_le_sum u) sum_zero_of_sup

/-- The same, of its parts. -/
theorem lseParts {f g : ι → EReal} {u : ι → ℝ≥0} {M T : EReal} (hM : M = Finset.univ.fold max (⊥ : EReal) f)
    (hg : ∀ i, g i = Ideal.exp (f i - M)) (hT : T = 0 + ∑ i, g i) (hf : ∀ i, f i = L (u i)) : M + Ideal.log T = L (∑ i, u i) := by
  rw [hT, Finset.sum_congr rfl fun i _ => hg i, hM]
  exact lseRow f u hf

/-- The softmax of a row of reals about its maximum. -/
theorem softmaxRow (f : ι → EReal) (y : ι → ℝ) (hf : ∀ i, f i = ((y i : ℝ) : EReal)) (n : ι) :
    Ideal.div (Ideal.exp (f n - max ⊥ (Finset.univ.fold max (⊥ : EReal) f)))
      (0 + ∑ i, Ideal.exp (f i - max ⊥ (Finset.univ.fold max (⊥ : EReal) f)))
    = ((Real.exp (y n) / ∑ i, Real.exp (y i) : ℝ) : EReal) := by
  have hL : ∀ i, f i = L (E (y i)) := fun i => by rw [hf, L_pos (E_pos _), E_coe, Real.log_exp]
  obtain rfl : f = fun i => L (E (y i)) := funext hL
  have hm : 0 < Finset.univ.sup (fun i => E (y i)) := lt_of_lt_of_le (E_pos (y n)) (Finset.le_sup (f := fun i => E (y i)) (Finset.mem_univ n))
  have hs : 0 < ∑ i, E (y i) := lt_of_lt_of_le hm (sup_le_sum _)
  rw [max_eq_right bot_le, fold_max_L, sum_exp_L, zero_add, exp_L_sub (Finset.le_sup (f := fun i => E (y i)) (Finset.mem_univ n)),
    Ideal.div_coe (NNReal.coe_pos.mpr (div_pos hs hm)).ne', ← EReal.coe_mul]
  congr 1
  have hm' := (NNReal.coe_pos.mpr hm).ne'
  have hs' := (NNReal.coe_pos.mpr hs).ne'
  rw [NNReal.coe_div, NNReal.coe_div, E_coe]
  rw [show (∑ i, Real.exp (y i)) = ((∑ i, E (y i) : ℝ≥0) : ℝ) by rw [NNReal.coe_sum]; rfl]
  field_simp

/-- A square is not negative, at the infinities too. -/
theorem sq_nonneg' (x : EReal) : 0 ≤ x * x := by
  induction x with
  | bot => simp
  | top => simp
  | coe r => rw [← EReal.coe_mul]; exact_mod_cast mul_self_nonneg r

/-- The element `n` of a row divided by the row's length, as a quotient and as a product, is one real number. -/
theorem unit_row (a : ι → EReal) {ε : ℝ} (hε : 0 < ε) (n : ι) :
    ∃ t : ℝ, a n * Ideal.rsqrt ((∑ c, a c * a c) + (ε : EReal)) = (t : EReal)
      ∧ Ideal.div (a n) (Ideal.sqrt ((∑ c, a c * a c) + (ε : EReal))) = (t : EReal) := by
  have h0 : 0 ≤ ∑ c, a c * a c := Finset.sum_nonneg fun c _ => sq_nonneg' (a c)
  have hn : a n * a n ≤ ∑ c, a c * a c := Finset.single_le_sum (f := fun c => a c * a c) (fun c _ => sq_nonneg' (a c)) (Finset.mem_univ n)
  generalize (∑ c, a c * a c) = S at h0 hn ⊢
  induction S with
  | bot => simp at h0
  | top =>
    refine ⟨0, ?_, ?_⟩
    · rw [EReal.top_add_coe]; show a n * 0 = _; simp
    · rw [EReal.top_add_coe]; show Ideal.div (a n) ⊤ = _
      simp [Ideal.div]
  | coe s =>
    have hs : 0 ≤ s := by exact_mod_cast h0
    have hp : 0 < s + ε := by linarith
    generalize a n = x at hn ⊢
    induction x with
    | bot => simp at hn
    | top => simp at hn
    | coe r =>
      have hq : Real.sqrt (s + ε) ≠ 0 := (Real.sqrt_pos.mpr hp).ne'
      refine ⟨r * (Real.sqrt (s + ε))⁻¹, ?_, ?_⟩
      · rw [← EReal.coe_add]
        show (r : EReal) * (if s + ε < 0 then ⊥ else if s + ε = 0 then ⊤ else (((Real.sqrt (s + ε))⁻¹ : ℝ) : EReal)) = _
        rw [if_neg (by linarith), if_neg (by linarith), ← EReal.coe_mul]
      · rw [← EReal.coe_add]
        show Ideal.div (r : EReal) (if s + ε < 0 then ⊥ else ((Real.sqrt (s + ε) : ℝ) : EReal)) = _
        rw [if_neg (by linarith), Ideal.div_coe hq, ← EReal.coe_mul, one_div]

end Cert.Weights

end
-- ==== Proof.Recursion.lean ====
module

public import Mathlib.Algebra.BigOperators.Intervals
public import Mathlib.Data.NNReal.Basic

@[expose] public section

noncomputable section

/-! # The alignment's weights

    Step `i` has a skip factor `q i` and a match factor `r i k` per column `k`. `U` is the recursion on the 2049 skip
    positions, `V` the recursion on the 4097 interleaved positions (skip, match, skip, …, skip); the second is the first
    times the position's own factor. -/

namespace Cert.Weights

open scoped NNReal

variable (q : ℕ → ℝ≥0) (r : ℕ → ℕ → ℝ≥0)

/-- The weights of the skip positions before step `i`. -/
def U : ℕ → ℕ → ℝ≥0
  | 0, _ => 1
  | i + 1, k => (∑ j ∈ Finset.range k, U i j * (q i + r i j)) + U i k * q i

/-- The factor of interleaved position `n` at step `i`. -/
def fac (i n : ℕ) : ℝ≥0 := if n % 2 = 0 then q i else r i (n / 2)

/-- The last position of the prefix that feeds position `n`. -/
def upTo (n : ℕ) : ℕ := if n % 2 = 0 then n else n - 1

/-- The weights of the interleaved positions after step `i`. -/
def V : ℕ → ℕ → ℝ≥0
  | 0, n => fac q r 0 n
  | i + 1, n => (∑ j ∈ Finset.range (upTo n + 1), V i j) * fac q r (i + 1) n

/-- `upTo n` is twice `n / 2`. -/
theorem upTo_eq (n : ℕ) : upTo n = 2 * (n / 2) := by
  unfold upTo; split <;> omega

/-- The prefix up to an even position, summed by pairs. -/
theorem sum_pairs (i : ℕ) (u : ℕ → ℝ≥0) (k : ℕ) :
    (∑ j ∈ Finset.range (2 * k + 1), u (j / 2) * fac q r i j) = (∑ j ∈ Finset.range k, u j * (q i + r i j)) + u k * q i := by
  induction k with
  | zero => simp [fac]
  | succ k ih =>
    have h1 : (2 * k + 1) / 2 = k := by omega
    have h2 : (2 * k + 1 + 1) / 2 = k + 1 := by omega
    have f1 : fac q r i (2 * k + 1) = r i k := by unfold fac; rw [if_neg (by omega), h1]
    have f2 : fac q r i (2 * k + 1 + 1) = q i := by unfold fac; rw [if_pos (by omega)]
    rw [show 2 * (k + 1) + 1 = (2 * k + 1) + 1 + 1 by ring, Finset.sum_range_succ, Finset.sum_range_succ, ih,
      Finset.sum_range_succ _ k, h1, h2, f1, f2]
    ring

/-- An interleaved weight is its skip position's weight times its own factor. -/
theorem V_eq (i n : ℕ) : V q r i n = U q r i (n / 2) * fac q r i n := by
  induction i generalizing n with
  | zero => simp [V, U]
  | succ i ih =>
    rw [V, U, upTo_eq, ← sum_pairs q r i (U q r i)]
    congr 1
    exact Finset.sum_congr rfl fun j _ => ih j

/-- The last prefix over the interleaved weights is the next skip weight. -/
theorem sum_V (i k : ℕ) : (∑ j ∈ Finset.range (2 * k + 1), V q r i j) = U q r (i + 1) k := by
  rw [U, ← sum_pairs q r i (U q r i)]
  exact Finset.sum_congr rfl fun j _ => V_eq q r i j

end Cert.Weights

end
-- ==== Proof.Cost.lean ====
module

public import proofs.«01_k».proof.Proof.Rows
public import proofs.«01_k».proof.Proof.Recursion

@[expose] public section

noncomputable section

/-! # The costs of an alignment

    From two sorted arrays of 2048 rows of 512: the unit rows, their products, the exponentials `ex`, the scale `su` of
    a step, and the softmax costs `C` of the 4097 interleaved positions. `answer` is the loss. -/

namespace Cert.Weights

open Idealize.ShloMosaic
open scoped NNReal

/-- The small number added under the root: the `f32` nearest to `1e-10`. -/
def eps : ℝ := 14411519 / 144115188075855872

theorem eps_pos : 0 < eps := by unfold eps; norm_num

/-- An array of 2048 rows of 512. -/
abbrev Arr := Fin 2048 → Fin 512 → EReal

/-- A row's element divided by the row's length. -/
def unit (A : Arr) (i : Fin 2048) (c : Fin 512) : ℝ := (unit_row (A i) eps_pos c).choose

/-- The unit row as the product with the reciprocal root. -/
theorem unit_mul (A : Arr) (i : Fin 2048) (c : Fin 512) :
    A i c * Ideal.rsqrt ((∑ c, A i c * A i c) + (eps : EReal)) = ((unit A i c : ℝ) : EReal) := (unit_row (A i) eps_pos c).choose_spec.1

/-- The unit row as the quotient by the root. -/
theorem unit_div (A : Arr) (i : Fin 2048) (c : Fin 512) :
    Ideal.div (A i c) (Ideal.sqrt ((∑ c, A i c * A i c) + (eps : EReal))) = ((unit A i c : ℝ) : EReal) := (unit_row (A i) eps_pos c).choose_spec.2

/-- The product of two unit rows. -/
def dot (A B : Arr) (i k : Fin 2048) : ℝ := ∑ c, unit A i c * unit B k c

/-- The product of two unit rows, in the extended reals. -/
theorem dot_coe (A B : Arr) (i k : Fin 2048) : ∑ c, ((unit A i c : ℝ) : EReal) * ((unit B k c : ℝ) : EReal) = ((dot A B i k : ℝ) : EReal) := by
  rw [dot, ← coe_sum]
  exact Finset.sum_congr rfl fun c _ => (EReal.coe_mul _ _).symm

/-- The exponential weight of a pair of rows (one outside the arrays). -/
def ex (A B : Arr) (i k : ℕ) : ℝ := if h : i < 2048 ∧ k < 2048 then Real.exp (-1 - dot A B ⟨i, h.1⟩ ⟨k, h.2⟩) else 1

theorem ex_fin (A B : Arr) (i k : Fin 2048) : ex A B i k = Real.exp (-1 - dot A B i k) := dif_pos ⟨i.isLt, k.isLt⟩

theorem ex_pos (A B : Arr) (i k : ℕ) : 0 < ex A B i k := by
  unfold ex; split
  · exact Real.exp_pos _
  · exact one_pos

/-- What a row's exponentials and its 2049 skips sum to. -/
def tot (A B : Arr) (i : ℕ) : ℝ := (∑ k ∈ Finset.range 2048, ex A B i k) + 2049

theorem tot_pos (A B : Arr) (i : ℕ) : 0 < tot A B i :=
  add_pos_of_nonneg_of_pos (Finset.sum_nonneg fun k _ => (ex_pos A B i k).le) (by norm_num)

/-- The scale of a step: a thousand over the row's total. -/
def su (A B : Arr) (i : ℕ) : ℝ := 1000 / tot A B i

/-- A step's skip factor. -/
def q (A B : Arr) (i : ℕ) : ℝ≥0 := E (-su A B i)

/-- A step's match factors. -/
def r (A B : Arr) (i k : ℕ) : ℝ≥0 := E (-(ex A B i k * su A B i))

/-- The loss. -/
def answer (A B : Arr) : EReal := ((-1 / 1000 : ℝ) : EReal) * L (U (q A B) (r A B) 2048 2048)

/-! ## The softmax row -/

/-- An interleaved position's share, before the division by the total. -/
def share (A B : Arr) (i n : ℕ) : ℝ := if n % 2 = 0 then 1 else ex A B i (n / 2)

/-- The softmax cost of an interleaved position. -/
def C (A B : Arr) (i n : ℕ) : ℝ := share A B i n / tot A B i

/-- The shares up to an even position. -/
theorem sum_share (A B : Arr) (i k : ℕ) :
    ∑ n ∈ Finset.range (2 * k + 1), share A B i n = (∑ j ∈ Finset.range k, ex A B i j) + (k + 1) := by
  induction k with
  | zero => simp [share]
  | succ k ih =>
    have f1 : share A B i (2 * k + 1) = ex A B i k := by unfold share; rw [if_neg (by omega), show (2 * k + 1) / 2 = k by omega]
    have f2 : share A B i (2 * k + 1 + 1) = 1 := by unfold share; rw [if_pos (by omega)]
    rw [show 2 * (k + 1) + 1 = (2 * k + 1) + 1 + 1 by ring, Finset.sum_range_succ, Finset.sum_range_succ, ih,
      Finset.sum_range_succ _ k, f1, f2]
    push_cast
    ring

/-- A row's exponentials are `e²` times the shares, so its softmax is `C`. -/
theorem softmax_C (A B : Arr) (i : Fin 2048) (y : Fin 4097 → ℝ)
    (h0 : ∀ n : Fin 4097, n.val % 2 = 0 → y n = 2)
    (h1 : ∀ n : Fin 4097, ∀ k : Fin 2048, n.val = 2 * k.val + 1 → y n = 1 - dot A B i k) (n : Fin 4097) :
    Real.exp (y n) / ∑ m, Real.exp (y m) = C A B i n := by
  have hy : ∀ m : Fin 4097, Real.exp (y m) = Real.exp 2 * share A B i m := by
    intro m
    unfold share
    split
    · next h => rw [h0 m h, mul_one]
    · next h =>
      have hlt : m.val / 2 < 2048 := by have := m.isLt; omega
      rw [h1 m ⟨m.val / 2, hlt⟩ (by show m.val = 2 * (m.val / 2) + 1; omega),
        show ex A B i (m.val / 2) = Real.exp (-1 - dot A B i ⟨m.val / 2, hlt⟩) from ex_fin A B i ⟨m.val / 2, hlt⟩,
        ← Real.exp_add]
      congr 1; ring
  have hs : ∑ m : Fin 4097, share A B i m = tot A B i := by
    rw [Fin.sum_univ_eq_sum_range (fun n => share A B i n) 4097, show (4097 : ℕ) = 2 * 2048 + 1 by norm_num, sum_share, tot]
    norm_num
  rw [hy n, Finset.sum_congr rfl fun m _ => hy m, ← Finset.mul_sum, hs, C]
  exact mul_div_mul_left _ _ (Real.exp_pos 2).ne'

/-- A thousand times a softmax cost is the exponent of the position's factor. -/
theorem fac_C (A B : Arr) (i n : ℕ) : fac (q A B) (r A B) i n = E (-(1000 * C A B i n)) := by
  unfold fac C share q r su
  split
  · congr 1; ring
  · congr 1; ring

/-! ## The weights are positive -/

theorem fac_pos (A B : Arr) (i n : ℕ) : 0 < fac (q A B) (r A B) i n := by rw [fac_C]; exact E_pos _

theorem V_pos (A B : Arr) (i n : ℕ) : 0 < V (q A B) (r A B) i n := by
  induction i generalizing n with
  | zero => exact fac_pos A B 0 n
  | succ i ih =>
    refine mul_pos ?_ (fac_pos A B (i + 1) n)
    exact Finset.sum_pos (fun j _ => ih j) ⟨0, by simp⟩

end Cert.Weights

end
-- ==== Proof.Layout.lean ====
module

public import Idealize.ShloMosaic.Lib.Pointwise
public import Idealize.ShloMosaic.Lib.MatmulPlain

@[expose] public section

noncomputable section

/-! # Arrays read at an index

    Row maxima, row sums and the joining of two arrays, at any sizes. -/

namespace Cert.Layout

open Idealize.ShloMosaic

/-- A row's maximum, taken from an initial value. -/
theorem rowMax {n m : ℕ} {u : Shape} (x : (⟨2, ![n, m]⟩ : Shape).Idx → EReal) (init : u.Idx → EReal)
    (h : (⟨2, ![n, m]⟩ : Shape).ReducesTo [1] ⟨1, ![n]⟩) (hu : 0 < u.numel) (i : Fin n) :
    Host.reduce (FloatOps.maximumf (F := Ideal) (φ := .f32)) x init h hu (ix1 i)
      = Finset.univ.fold max (init (Shape.Idx.first hu)) fun k : Fin m => x (ix2 i k) := by
  pointwise

/-- A row's sum, added to an initial value. -/
theorem rowSum {n m : ℕ} {u : Shape} (x : FVec Ideal (⟨2, ![n, m]⟩ : Shape) .f32) (init : FVec Ideal u .f32)
    (h : (⟨2, ![n, m]⟩ : Shape).ReducesTo [1] ⟨1, ![n]⟩) (hu : 0 < u.numel) (i : Fin n) :
    Host.reduceAdd x init h hu (ix1 i) = init (Shape.Idx.first hu) + ∑ k : Fin m, x (ix2 i k) := by
  pointwise

/-- Two arrays stacked: a row of the first. -/
theorem stack_lo {α : Type} {n m c N : ℕ} (x : (⟨2, ![n, c]⟩ : Shape).Idx → α) (y : (⟨2, ![m, c]⟩ : Shape).Idx → α)
    (h : Shape.Concatenates [⟨2, ![n, c]⟩, ⟨2, ![m, c]⟩] (⟨2, ![N, c]⟩ : Shape) 0) (i : Fin n) (hi : i.val < N) (k : Fin c) :
    concatenate (⟨2, ![N, c]⟩ : Shape) 0 [⟨_, x⟩, ⟨_, y⟩] h (ix2 ⟨i.val, hi⟩ k) = x (ix2 i k) :=
  concatenate_pair_apply_left (t := ⟨2, ![N, c]⟩) 0 x y h _ rfl (ix2 i k) fun b => match b with | ⟨0, _⟩ => rfl | ⟨1, _⟩ => rfl

/-- Two arrays stacked: a row of the second. -/
theorem stack_hi {α : Type} {n m c N : ℕ} (x : (⟨2, ![n, c]⟩ : Shape).Idx → α) (y : (⟨2, ![m, c]⟩ : Shape).Idx → α)
    (h : Shape.Concatenates [⟨2, ![n, c]⟩, ⟨2, ![m, c]⟩] (⟨2, ![N, c]⟩ : Shape) 0) (i : Fin m) (hi : i.val + n < N) (k : Fin c) :
    concatenate (⟨2, ![N, c]⟩ : Shape) 0 [⟨_, x⟩, ⟨_, y⟩] h (ix2 ⟨i.val + n, hi⟩ k) = y (ix2 i k) :=
  concatenate_pair_apply_right (t := ⟨2, ![N, c]⟩) 0 x y h _ rfl rfl (ix2 i k)
    (fun b hb => match b, hb with | ⟨0, _⟩, hb => absurd rfl hb | ⟨1, _⟩, _ => rfl) rfl

/-- Two arrays side by side: a column of the first. -/
theorem beside_lo {α : Type} {n m c N : ℕ} (x : (⟨2, ![c, n]⟩ : Shape).Idx → α) (y : (⟨2, ![c, m]⟩ : Shape).Idx → α)
    (h : Shape.Concatenates [⟨2, ![c, n]⟩, ⟨2, ![c, m]⟩] (⟨2, ![c, N]⟩ : Shape) 1) (i : Fin c) (k : Fin n) (j : Fin N) (hj : j.val = k.val) :
    concatenate (⟨2, ![c, N]⟩ : Shape) 1 [⟨_, x⟩, ⟨_, y⟩] h (ix2 i j) = x (ix2 i k) :=
  concatenate_pair_apply_left (t := ⟨2, ![c, N]⟩) 1 x y h _ rfl (ix2 i k) fun b => match b with | ⟨0, _⟩ => rfl | ⟨1, _⟩ => hj.symm

/-- Two arrays side by side: a column of the second. -/
theorem beside_hi {α : Type} {n m c N : ℕ} (x : (⟨2, ![c, n]⟩ : Shape).Idx → α) (y : (⟨2, ![c, m]⟩ : Shape).Idx → α)
    (h : Shape.Concatenates [⟨2, ![c, n]⟩, ⟨2, ![c, m]⟩] (⟨2, ![c, N]⟩ : Shape) 1) (i : Fin c) (k : Fin m) (j : Fin N) (hj : j.val = k.val + n) :
    concatenate (⟨2, ![c, N]⟩ : Shape) 1 [⟨_, x⟩, ⟨_, y⟩] h (ix2 i j) = y (ix2 i k) :=
  concatenate_pair_apply_right (t := ⟨2, ![c, N]⟩) 1 x y h _ rfl rfl (ix2 i k)
    (fun b hb => match b, hb with | ⟨0, _⟩, _ => rfl | ⟨1, _⟩, hb => absurd rfl hb) hj.symm

end Cert.Layout

end
-- ==== Proof.CostVal.lean ====
module

public import proofs.«01_k».proof.Proof.Region0
public import proofs.«01_k».proof.Proof.Cost
public import proofs.«01_k».proof.Proof.Layout
public import Idealize.ShloMosaic.Lib.Pipeline.ValueKit

@[expose] public section

noncomputable section

/-! # The first launch's blocks, as real numbers -/

namespace Cert.KernelIdeal.Val

open Idealize.ShloMosaic
open Cert.KernelIdeal Cert.KernelIdeal.Gen Cert.KernelIdeal.Hand Cert.Weights

/-- The small number's pattern. -/
theorem ofBits_eps : Ideal.ofBits .f32 0x2EDBE6FF#32 = ((eps : ℝ) : EReal) := by
  simp [Ideal.ofBits, Ideal.ieee, -EReal.coe_mul, eps]; norm_num

/-- Minus one's pattern. -/
theorem ofBits_neg_one : Ideal.ofBits .f32 0xBF800000#32 = ((-1 : ℝ) : EReal) := by
  simp [Ideal.ofBits, Ideal.ieee, -EReal.coe_mul]; norm_num

/-- A thousand's pattern. -/
theorem ofBits_thousand : Ideal.ofBits .f32 0x447A0000#32 = ((1000 : ℝ) : EReal) := by
  simp [Ideal.ofBits, Ideal.ieee, -EReal.coe_mul]; norm_num

/-- The pattern of 2049. -/
theorem ofBits_2049 : Ideal.ofBits .f32 0x45001000#32 = ((2049 : ℝ) : EReal) := by
  simp [Ideal.ofBits, Ideal.ieee, -EReal.coe_mul]; norm_num

variable {A B : Arr} {t : ℕ} {x0 : FVec Ideal S256x512 .f32} {x1 : FVec Ideal S2048x512 .f32}

/-- The exponential of a block's cost, before the rows are named. -/
theorem pay8_apply (x0 : FVec Ideal S256x512 .f32) (x1 : FVec Ideal S2048x512 .f32) (i : Fin 256) (k : Fin 2048) :
    k0_pay8 (F := Ideal) x0 x1 (ix2 i k) = Ideal.exp (((-1 : ℝ) : EReal) - ∑ c : Fin 512,
      (x0 (ix2 i c) * Ideal.rsqrt ((∑ c, x0 (ix2 i c) * x0 (ix2 i c)) + (eps : EReal)))
        * (x1 (ix2 k c) * Ideal.rsqrt ((∑ c, x1 (ix2 k c) * x1 (ix2 k c)) + (eps : EReal)))) := by
  pointwise [k0_pay8, ofBits_eps, ofBits_neg_one, zero_add]

/-- The exponential of a block's cost. -/
theorem exp_apply (ht : t < 8) (h0 : ∀ (i : Fin 256) (c : Fin 512), x0 (ix2 i c) = A ⟨256 * t + i.val, by omega⟩ c)
    (h1 : ∀ (k : Fin 2048) (c : Fin 512), x1 (ix2 k c) = B k c) (i : Fin 256) (k : Fin 2048) :
    k0_pay8 (F := Ideal) x0 x1 (ix2 i k) = ((ex A B (256 * t + i.val) k.val : ℝ) : EReal) := by
  rw [pay8_apply]
  simp only [h0, h1, unit_mul]
  rw [dot_coe, ← EReal.coe_sub, ex_fin A B ⟨256 * t + i.val, by omega⟩ k]
  rfl

/-- The block read whole. -/
theorem k0_exp_eq (x0 : FVec Ideal S256x512 .f32) (x1 : FVec Ideal S2048x512 .f32) : k0_exp (F := Ideal) x0 x1 = k0_pay8 x0 x1 := by
  unfold k0_exp
  rw [View.ld_unit_zero (by funext a; fin_cases a <;> rfl), View.ld_unit_zero (by funext a; fin_cases a <;> rfl)]

/-- The scale of a row of a block. -/
theorem pay7_apply (ht : t < 8) (h0 : ∀ (i : Fin 256) (c : Fin 512), x0 (ix2 i c) = A ⟨256 * t + i.val, by omega⟩ c)
    (h1 : ∀ (k : Fin 2048) (c : Fin 512), x1 (ix2 k c) = B k c) (i : Fin 256) :
    k0_pay7 (F := Ideal) (k0_pay8 x0 x1) (ix2 i 0) = ((su A B (256 * t + i.val) : ℝ) : EReal) := by
  have h : k0_pay7 (F := Ideal) (k0_pay8 x0 x1) (ix2 i 0) = Ideal.div ((1000 : ℝ) : EReal) ((∑ k : Fin 2048, k0_pay8 (F := Ideal) x0 x1 (ix2 i k)) + ((2049 : ℝ) : EReal)) := by
    generalize k0_pay8 (F := Ideal) x0 x1 = z
    pointwise [k0_pay7, ofBits_thousand, ofBits_2049, zero_add]
  rw [h]
  simp only [exp_apply ht h0 h1]
  rw [coe_sum, ← EReal.coe_add, Fin.sum_univ_eq_sum_range (fun k => ex A B (256 * t + i.val) k) 2048]
  refine (Ideal.div_coe (tot_pos A B (256 * t + i.val)).ne' _).trans ?_
  rw [← EReal.coe_mul]
  congr 1
  unfold su
  exact mul_one_div _ _

/-- What the first launch stores of the scales. -/
theorem out3_apply (ht : t < 8) (h0 : ∀ (i : Fin 256) (c : Fin 512), x0 (ix2 i c) = A ⟨256 * t + i.val, by omega⟩ c)
    (h1 : ∀ (k : Fin 2048) (c : Fin 512), x1 (ix2 k c) = B k c) (i : Fin 256) :
    out0_3 (F := Ideal) x0 x1 (ix2 i 0) = ((su A B (256 * t + i.val) : ℝ) : EReal) := by
  rw [← pay7_apply ht h0 h1 i]
  unfold out0_3
  rw [k0_exp_eq, View.canon_unit_zero (by funext a; fin_cases a <;> rfl)]

/-- One stored piece, 128 columns under a new unit axis, at the index a place of the block lands on. -/
theorem piece_apply (z : FVec Ideal S256x2048 .f32) (o b : ℕ) (ho : o = 128 * b) (h : S256x2048.Slices ![0, o] S256x128)
    (i : Fin 256) (r : Fin 16) (c : Fin 128) (x : S256x1x128.Idx)
    (hx : ∀ a, ((ix3 i r c : S256x16x128.Idx) a : ℕ) = (![0, b, 0] : Fin 3 → ℕ) a + x a) :
    shapeCast S256x1x128 (extractStridedSlice S256x128 ![0, o] z h) shapeCasts_S256x128_S256x1x128 x
      = z (ix2 i ⟨128 * r.val + c.val, by omega⟩) := by
  have h0 := hx 0
  have h1 := hx 1
  have h2 := hx 2
  have e0 : i.val = 0 + (x 0).val := h0
  have e1 : r.val = b + (x 1).val := h1
  have e2 : c.val = 0 + (x 2).val := h2
  have l1 : (x 1).val < 1 := (x 1).isLt
  obtain rfl : x = ix3 i 0 c := by
    funext a
    apply Fin.ext
    match a with
    | ⟨0, _⟩ => exact (e0.trans (Nat.zero_add _)).symm
    | ⟨1, _⟩ => exact Nat.lt_one_iff.mp l1
    | ⟨2, _⟩ => exact (e2.trans (Nat.zero_add _)).symm
  have hb : r.val = b := e1
  subst hb ho
  pointwise

/-- What the first launch stores of the exponentials. -/
theorem out2_apply (x0 : Vec Ideal S256x512 .f32) (x1 : Vec Ideal S2048x512 .f32) (i : Fin 256) (r : Fin 16) (c : Fin 128) :
    out0_2 (F := Ideal) x0 x1 (ix3 i r c) = k0_pay8 (F := Ideal) x0 x1 (ix2 i ⟨128 * r.val + c.val, by omega⟩) := by
  unfold out0_2
  rw [k0_exp_eq, View.ld_unit_zero (by funext a; fin_cases a <;> rfl), View.ld_unit_zero (by funext a; fin_cases a <;> rfl)]
  refine View.canon_eq_of_allAt _ _ _ (cover0_2 _ _ _ _ _ _ _ _ _ _ _ _ _ _ _ _ _) ?_
  refine View.allAt_cons_unit _ _ _ _ _ (fun x hx => piece_apply (k0_pay8 (F := Ideal) x0 x1) 1920 15 rfl slices_S256x2048_o0_1920_S256x128 i r c x hx) ?_
  refine View.allAt_cons_unit _ _ _ _ _ (fun x hx => piece_apply (k0_pay8 (F := Ideal) x0 x1) 1792 14 rfl slices_S256x2048_o0_1792_S256x128 i r c x hx) ?_
  refine View.allAt_cons_unit _ _ _ _ _ (fun x hx => piece_apply (k0_pay8 (F := Ideal) x0 x1) 1664 13 rfl slices_S256x2048_o0_1664_S256x128 i r c x hx) ?_
  refine View.allAt_cons_unit _ _ _ _ _ (fun x hx => piece_apply (k0_pay8 (F := Ideal) x0 x1) 1536 12 rfl slices_S256x2048_o0_1536_S256x128 i r c x hx) ?_
  refine View.allAt_cons_unit _ _ _ _ _ (fun x hx => piece_apply (k0_pay8 (F := Ideal) x0 x1) 1408 11 rfl slices_S256x2048_o0_1408_S256x128 i r c x hx) ?_
  refine View.allAt_cons_unit _ _ _ _ _ (fun x hx => piece_apply (k0_pay8 (F := Ideal) x0 x1) 1280 10 rfl slices_S256x2048_o0_1280_S256x128 i r c x hx) ?_
  refine View.allAt_cons_unit _ _ _ _ _ (fun x hx => piece_apply (k0_pay8 (F := Ideal) x0 x1) 1152 9 rfl slices_S256x2048_o0_1152_S256x128 i r c x hx) ?_
  refine View.allAt_cons_unit _ _ _ _ _ (fun x hx => piece_apply (k0_pay8 (F := Ideal) x0 x1) 1024 8 rfl slices_S256x2048_o0_1024_S256x128 i r c x hx) ?_
  refine View.allAt_cons_unit _ _ _ _ _ (fun x hx => piece_apply (k0_pay8 (F := Ideal) x0 x1) 896 7 rfl slices_S256x2048_o0_896_S256x128 i r c x hx) ?_
  refine View.allAt_cons_unit _ _ _ _ _ (fun x hx => piece_apply (k0_pay8 (F := Ideal) x0 x1) 768 6 rfl slices_S256x2048_o0_768_S256x128 i r c x hx) ?_
  refine View.allAt_cons_unit _ _ _ _ _ (fun x hx => piece_apply (k0_pay8 (F := Ideal) x0 x1) 640 5 rfl slices_S256x2048_o0_640_S256x128 i r c x hx) ?_
  refine View.allAt_cons_unit _ _ _ _ _ (fun x hx => piece_apply (k0_pay8 (F := Ideal) x0 x1) 512 4 rfl slices_S256x2048_o0_512_S256x128 i r c x hx) ?_
  refine View.allAt_cons_unit _ _ _ _ _ (fun x hx => piece_apply (k0_pay8 (F := Ideal) x0 x1) 384 3 rfl slices_S256x2048_o0_384_S256x128 i r c x hx) ?_
  refine View.allAt_cons_unit _ _ _ _ _ (fun x hx => piece_apply (k0_pay8 (F := Ideal) x0 x1) 256 2 rfl slices_S256x2048_o0_256_S256x128 i r c x hx) ?_
  refine View.allAt_cons_unit _ _ _ _ _ (fun x hx => piece_apply (k0_pay8 (F := Ideal) x0 x1) 128 1 rfl slices_S256x2048_o0_128_S256x128 i r c x hx) ?_
  refine View.allAt_cons_unit _ _ _ _ _ (fun x hx => piece_apply (k0_pay8 (F := Ideal) x0 x1) 0 0 rfl slices_S256x2048_o0_0_S256x128 i r c x hx) ?_
  exact View.allAt_nil _ _

end Cert.KernelIdeal.Val

end
-- ==== Proof.DpStep.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # One trip of the recursion's loop

    A trip reads one scale `w` of the step, the row of exponentials, and the two buffers carried (`p`, 2048 log-weights
    as 16 rows of 128, and the last log-weight), and writes both back. The functions below say what it computes in a
    few steps; `trip_run` shows that the loop's body does that. -/

/-- The constant that fills the places a shift leaves open. -/
def maskC : F .f32 := Named.named κ "mask" 0xF149F2CA#32

/-- `x` moved to the right along the 128 columns, the left filled with the mask. -/
def shiftC {Sl Sr : Shape} (hs : S16x128.Slices ![0, 0] Sr) (hc : Shape.Concatenates [Sl, Sr] S16x128 1) (x : FVec F S16x128 .f32) : FVec F S16x128 .f32 :=
  concatenate S16x128 1 [⟨Sl, broadcast Sl (maskC (F := F))⟩, ⟨Sr, extractStridedSlice Sr ![0, 0] x hs⟩] hc

/-- `x` moved down along the 16 rows, the top filled with the mask. -/
def shiftR {Sl Sr : Shape} (hs : S16x1.Slices ![0, 0] Sr) (hc : Shape.Concatenates [Sl, Sr] S16x1 0) (x : FVec F S16x1 .f32) : FVec F S16x1 .f32 :=
  concatenate S16x1 0 [⟨Sl, broadcast Sl (maskC (F := F))⟩, ⟨Sr, extractStridedSlice Sr ![0, 0] x hs⟩] hc

/-- The log of the sum of the exponentials of `x` and of the members of `xs`, taken about their maximum. -/
def lseMany {S : Shape} (x : FVec F S .f32) (xs : List (FVec F S .f32)) : FVec F S .f32 :=
  addf (xs.foldl (fun a y => maximumf a y) x)
    (Idealize.ShloMosaic.log (xs.foldl (fun a y => addf a (exp (subf y (xs.foldl (fun a y => maximumf a y) x)))) (exp (subf x (xs.foldl (fun a y => maximumf a y) x)))))

/-- The log of the sum of two exponentials. -/
def plse {S : Shape} (a b : FVec F S .f32) : FVec F S .f32 :=
  addf (maximumf a b) (log1p (exp (subf (broadcast S (Scalar.ofBits .f32 0x00000000#32)) (absf (subf a b)))))

/-- Sixteen neighbours to the left, summed in the log domain. -/
def lane1 (x : FVec F S16x128 .f32) : FVec F S16x128 .f32 :=
  lseMany x [shiftC slices_S16x128_o0_0_S16x127 concatenates_S16x1_S16x127_S16x128_d1 x, shiftC slices_S16x128_o0_0_S16x126 concatenates_S16x2_S16x126_S16x128_d1 x, shiftC slices_S16x128_o0_0_S16x125 concatenates_S16x3_S16x125_S16x128_d1 x, shiftC slices_S16x128_o0_0_S16x124 concatenates_S16x4_S16x124_S16x128_d1 x, shiftC slices_S16x128_o0_0_S16x123 concatenates_S16x5_S16x123_S16x128_d1 x, shiftC slices_S16x128_o0_0_S16x122 concatenates_S16x6_S16x122_S16x128_d1 x, shiftC slices_S16x128_o0_0_S16x121 concatenates_S16x7_S16x121_S16x128_d1 x, shiftC slices_S16x128_o0_0_S16x120 concatenates_S16x8_S16x120_S16x128_d1 x, shiftC slices_S16x128_o0_0_S16x119 concatenates_S16x9_S16x119_S16x128_d1 x, shiftC slices_S16x128_o0_0_S16x118 concatenates_S16x10_S16x118_S16x128_d1 x, shiftC slices_S16x128_o0_0_S16x117 concatenates_S16x11_S16x117_S16x128_d1 x, shiftC slices_S16x128_o0_0_S16x116 concatenates_S16x12_S16x116_S16x128_d1 x, shiftC slices_S16x128_o0_0_S16x115 concatenates_S16x13_S16x115_S16x128_d1 x, shiftC slices_S16x128_o0_0_S16x114 concatenates_S16x14_S16x114_S16x128_d1 x, shiftC slices_S16x128_o0_0_S16x113 concatenates_S16x15_S16x113_S16x128_d1 x]

/-- The eight blocks of sixteen, summed in the log domain. -/
def lane2 (x : FVec F S16x128 .f32) : FVec F S16x128 .f32 :=
  lseMany x [shiftC slices_S16x128_o0_0_S16x112 concatenates_S16x16_S16x112_S16x128_d1 x, shiftC slices_S16x128_o0_0_S16x96 concatenates_S16x32_S16x96_S16x128_d1 x, shiftC slices_S16x128_o0_0_S16x80 concatenates_S16x48_S16x80_S16x128_d1 x, shiftC slices_S16x128_o0_0_S16x64 concatenates_S16x64_S16x64_S16x128_d1 x, shiftC slices_S16x128_o0_0_S16x48 concatenates_S16x80_S16x48_S16x128_d1 x, shiftC slices_S16x128_o0_0_S16x32 concatenates_S16x96_S16x32_S16x128_d1 x, shiftC slices_S16x128_o0_0_S16x16 concatenates_S16x112_S16x16_S16x128_d1 x]

/-- The last column: the sixteen rows' totals. -/
def col127 (x : FVec F S16x128 .f32) : FVec F S16x1 .f32 := extractStridedSlice S16x1 ![0, 127] x slices_S16x128_o0_127_S16x1

/-- What the rows above a row sum to, in the log domain. -/
def carry (x : FVec F S16x1 .f32) : FVec F S16x1 .f32 :=
  lseMany (shiftR slices_S16x1_o0_0_S15x1 concatenates_S1x1_S15x1_S16x1_d0 x) [shiftR slices_S16x1_o0_0_S14x1 concatenates_S2x1_S14x1_S16x1_d0 x, shiftR slices_S16x1_o0_0_S13x1 concatenates_S3x1_S13x1_S16x1_d0 x, shiftR slices_S16x1_o0_0_S12x1 concatenates_S4x1_S12x1_S16x1_d0 x, shiftR slices_S16x1_o0_0_S11x1 concatenates_S5x1_S11x1_S16x1_d0 x, shiftR slices_S16x1_o0_0_S10x1 concatenates_S6x1_S10x1_S16x1_d0 x, shiftR slices_S16x1_o0_0_S9x1 concatenates_S7x1_S9x1_S16x1_d0 x, shiftR slices_S16x1_o0_0_S8x1 concatenates_S8x1_S8x1_S16x1_d0 x, shiftR slices_S16x1_o0_0_S7x1 concatenates_S9x1_S7x1_S16x1_d0 x, shiftR slices_S16x1_o0_0_S6x1 concatenates_S10x1_S6x1_S16x1_d0 x, shiftR slices_S16x1_o0_0_S5x1 concatenates_S11x1_S5x1_S16x1_d0 x, shiftR slices_S16x1_o0_0_S4x1 concatenates_S12x1_S4x1_S16x1_d0 x, shiftR slices_S16x1_o0_0_S3x1 concatenates_S13x1_S3x1_S16x1_d0 x, shiftR slices_S16x1_o0_0_S2x1 concatenates_S14x1_S2x1_S16x1_d0 x, shiftR slices_S16x1_o0_0_S1x1 concatenates_S15x1_S1x1_S16x1_d0 x]

/-- All 2048 prefix sums from the prefix sums of each row, in the log domain. -/
def dpCum (z : FVec F S16x128 .f32) : FVec F S16x128 .f32 :=
  plse z (broadcastTo S16x128 (carry (col127 z)) broadcasts_S16x1_S16x128)

/-- The prefix sums moved on by one place, across the rows. -/
def dpShift (z : FVec F S16x128 .f32) : FVec F S16x128 .f32 :=
  concatenate S16x128 1 [⟨S16x1, shiftR slices_S16x1_o0_0_S15x1 concatenates_S1x1_S15x1_S16x1_d0 (col127 z)⟩, ⟨S16x127, extractStridedSlice S16x127 ![0, 0] z slices_S16x128_o0_0_S16x127⟩] concatenates_S16x1_S16x127_S16x128_d1

/-- All 2048 inclusive prefix sums of one trip. -/
def dpAll (w : F .f32) (row : FVec F S1x16x128 .f32) (p : FVec F S16x128 .f32) : FVec F S16x128 .f32 := dpCum (lane2 (lane1 (k1_pay6 w row p)))

/-- What a trip leaves in the buffer of 2048 log-weights. -/
def dpP (w : F .f32) (row : FVec F S1x16x128 .f32) (p : FVec F S16x128 .f32) : FVec F S16x128 .f32 :=
  shapeCast S16x128 (plse (dpShift (dpAll w row p)) (k1_pay69 w p)) shapeCasts_S16x128_S16x128

/-- What a trip leaves in the buffer of the last log-weight. -/
def dpLast (w : F .f32) (row : FVec F S1x16x128 .f32) (p : FVec F S16x128 .f32) (pl : FVec F S1x1 .f32) : FVec F S1x1 .f32 :=
  k1_pay4 w (dpAll w row p) pl

/-- The first shifted sum of the body is `lane1`. -/
theorem lane1_eq (w : F .f32) (row : FVec F S1x16x128 .f32) (p : FVec F S16x128 .f32)
    (v28 : FVec F S16x128 .f32) (v31 : FVec F S16x128 .f32) (v34 : FVec F S16x128 .f32) (v37 : FVec F S16x128 .f32) (v40 : FVec F S16x128 .f32) (v43 : FVec F S16x128 .f32) (v46 : FVec F S16x128 .f32) (v49 : FVec F S16x128 .f32) (v50 : FVec F S16x8 .f32) (v51 : FVec F S16x120 .f32) (v52 : FVec F S16x128 .f32) (v55 : FVec F S16x128 .f32) (v58 : FVec F S16x128 .f32) (v61 : FVec F S16x128 .f32) (v64 : FVec F S16x128 .f32) (v67 : FVec F S16x128 .f32) (v70 : FVec F S16x128 .f32) (v73 : FVec F S16x128 .f32) (v88 : FVec F S16x128 .f32) (v90 : FVec F S16x128 .f32) (v92 : FVec F S16x128 .f32) (v94 : FVec F S16x128 .f32) (v96 : FVec F S16x128 .f32) (v98 : FVec F S16x128 .f32) (v100 : FVec F S16x128 .f32) (v102 : FVec F S16x128 .f32) (v104 : FVec F S16x128 .f32)
    (hv28 : v28 = k1_pay6 (F := F) w row p)
    (hv31 : v31 = k1_pay7 (F := F) w row p)
    (hv34 : v34 = k1_pay8 (F := F) w row p)
    (hv37 : v37 = k1_pay9 (F := F) w row p)
    (hv40 : v40 = k1_pay10 (F := F) w row p)
    (hv43 : v43 = k1_pay11 (F := F) w row p)
    (hv46 : v46 = k1_pay12 (F := F) w row p)
    (hv49 : v49 = k1_pay13 (F := F) w row p)
    (hv50 : v50 = k1_pay14 (F := F) )
    (hv51 : v51 = k1_pay15 (F := F) w row p)
    (hv52 : v52 = k1_pay16 (F := F) v50 v51)
    (hv55 : v55 = k1_pay17 (F := F) v28)
    (hv58 : v58 = k1_pay18 (F := F) v28)
    (hv61 : v61 = k1_pay19 (F := F) v28)
    (hv64 : v64 = k1_pay20 (F := F) v28)
    (hv67 : v67 = k1_pay21 (F := F) v28)
    (hv70 : v70 = k1_pay22 (F := F) v28)
    (hv73 : v73 = k1_pay23 (F := F) v28)
    (hv88 : v88 = k1_pay24 (F := F) v28 v31 v34 v37 v40 v43 v46 v49 v50 v51)
    (hv90 : v90 = k1_pay25 (F := F) v28 v31 v34 v37 v40 v43 v46 v49 v50 v51)
    (hv92 : v92 = k1_pay26 (F := F) v28 v31 v34 v37 v40 v43 v46 v49 v50 v51)
    (hv94 : v94 = k1_pay27 (F := F) v28 v31 v34 v37 v40 v43 v46 v49 v50 v51)
    (hv96 : v96 = k1_pay28 (F := F) v28 v31 v34 v37 v40 v43 v46 v49 v50 v51)
    (hv98 : v98 = k1_pay29 (F := F) v28 v31 v34 v37 v40 v43 v46 v49 v50 v51)
    (hv100 : v100 = k1_pay30 (F := F) v28 v31 v34 v37 v40 v43 v46 v49 v50 v51)
    (hv102 : v102 = k1_pay31 (F := F) v28 v31 v34 v37 v40 v43 v46 v49 v50 v51)
    (hv104 : v104 = k1_pay32 (F := F) v28 v31 v34 v37 v40 v43 v46 v49 v50 v51) :
    k1_pay33 v52 v55 v58 v61 v64 v67 v70 v73 v88 v90 v92 v94 v96 v98 v100 v102 v104 = lane1 (k1_pay6 w row p) := by
  subst hv28 hv31 hv34 hv37 hv40 hv43 hv46 hv49 hv50 hv51 hv52 hv55 hv58 hv61 hv64 hv67 hv70 hv73 hv88 hv90 hv92 hv94 hv96 hv98 hv100 hv102 hv104
  rfl

/-- The second shifted sum of the body is `lane2`. -/
theorem lane2_eq (v52 : FVec F S16x128 .f32) (v55 : FVec F S16x128 .f32) (v58 : FVec F S16x128 .f32) (v61 : FVec F S16x128 .f32) (v64 : FVec F S16x128 .f32) (v67 : FVec F S16x128 .f32) (v70 : FVec F S16x128 .f32) (v73 : FVec F S16x128 .f32) (v88 : FVec F S16x128 .f32) (v90 : FVec F S16x128 .f32) (v92 : FVec F S16x128 .f32) (v94 : FVec F S16x128 .f32) (v96 : FVec F S16x128 .f32) (v98 : FVec F S16x128 .f32) (v100 : FVec F S16x128 .f32) (v102 : FVec F S16x128 .f32) (v104 : FVec F S16x128 .f32)
    (v137 : FVec F S16x128 .f32) (v140 : FVec F S16x128 .f32) (v143 : FVec F S16x128 .f32) (v146 : FVec F S16x128 .f32) (v149 : FVec F S16x128 .f32) (v152 : FVec F S16x128 .f32) (v155 : FVec F S16x128 .f32) (v156 : FVec F S16x112 .f32) (v157 : FVec F S16x16 .f32)
    (hv137 : v137 = k1_pay33 (F := F) v52 v55 v58 v61 v64 v67 v70 v73 v88 v90 v92 v94 v96 v98 v100 v102 v104)
    (hv140 : v140 = k1_pay34 (F := F) v52 v55 v58 v61 v64 v67 v70 v73 v88 v90 v92 v94 v96 v98 v100 v102 v104)
    (hv143 : v143 = k1_pay35 (F := F) v52 v55 v58 v61 v64 v67 v70 v73 v88 v90 v92 v94 v96 v98 v100 v102 v104)
    (hv146 : v146 = k1_pay36 (F := F) v52 v55 v58 v61 v64 v67 v70 v73 v88 v90 v92 v94 v96 v98 v100 v102 v104)
    (hv149 : v149 = k1_pay37 (F := F) v52 v55 v58 v61 v64 v67 v70 v73 v88 v90 v92 v94 v96 v98 v100 v102 v104)
    (hv152 : v152 = k1_pay38 (F := F) v52 v55 v58 v61 v64 v67 v70 v73 v88 v90 v92 v94 v96 v98 v100 v102 v104)
    (hv155 : v155 = k1_pay39 (F := F) v52 v55 v58 v61 v64 v67 v70 v73 v88 v90 v92 v94 v96 v98 v100 v102 v104)
    (hv156 : v156 = k1_pay40 (F := F) )
    (hv157 : v157 = k1_pay41 (F := F) v52 v55 v58 v61 v64 v67 v70 v73 v88 v90 v92 v94 v96 v98 v100 v102 v104) :
    k1_pay42 v137 v140 v143 v146 v149 v152 v155 v156 v157 = lane2 (k1_pay33 v52 v55 v58 v61 v64 v67 v70 v73 v88 v90 v92 v94 v96 v98 v100 v102 v104) := by
  subst hv137 hv140 hv143 hv146 hv149 hv152 hv155 hv156 hv157
  rfl

/-- The carry over the rows gives `dpCum`. -/
theorem cum_eq (v137 : FVec F S16x128 .f32) (v140 : FVec F S16x128 .f32) (v143 : FVec F S16x128 .f32) (v146 : FVec F S16x128 .f32) (v149 : FVec F S16x128 .f32) (v152 : FVec F S16x128 .f32) (v155 : FVec F S16x128 .f32) (v156 : FVec F S16x112 .f32) (v157 : FVec F S16x16 .f32)
    (v190 : FVec F S16x128 .f32) (v191 : FVec F S16x1 .f32) (v194 : FVec F S16x1 .f32) (v197 : FVec F S16x1 .f32) (v200 : FVec F S16x1 .f32) (v203 : FVec F S16x1 .f32) (v206 : FVec F S16x1 .f32) (v209 : FVec F S16x1 .f32) (v210 : FVec F S7x1 .f32) (v212 : FVec F S16x1 .f32) (v215 : FVec F S16x1 .f32) (v218 : FVec F S16x1 .f32) (v221 : FVec F S16x1 .f32) (v224 : FVec F S16x1 .f32) (v227 : FVec F S16x1 .f32) (v230 : FVec F S16x1 .f32) (v233 : FVec F S16x1 .f32) (v236 : FVec F S16x1 .f32) (v250 : FVec F S16x1 .f32) (v252 : FVec F S16x1 .f32) (v254 : FVec F S16x1 .f32) (v256 : FVec F S16x1 .f32) (v258 : FVec F S16x1 .f32) (v260 : FVec F S16x1 .f32) (v262 : FVec F S16x1 .f32)
    (hv190 : v190 = k1_pay42 (F := F) v137 v140 v143 v146 v149 v152 v155 v156 v157)
    (hv191 : v191 = k1_pay43 (F := F) v137 v140 v143 v146 v149 v152 v155 v156 v157)
    (hv194 : v194 = k1_pay44 (F := F) v137 v140 v143 v146 v149 v152 v155 v156 v157)
    (hv197 : v197 = k1_pay45 (F := F) v137 v140 v143 v146 v149 v152 v155 v156 v157)
    (hv200 : v200 = k1_pay46 (F := F) v137 v140 v143 v146 v149 v152 v155 v156 v157)
    (hv203 : v203 = k1_pay47 (F := F) v137 v140 v143 v146 v149 v152 v155 v156 v157)
    (hv206 : v206 = k1_pay48 (F := F) v137 v140 v143 v146 v149 v152 v155 v156 v157)
    (hv209 : v209 = k1_pay49 (F := F) v137 v140 v143 v146 v149 v152 v155 v156 v157)
    (hv210 : v210 = k1_pay50 (F := F) )
    (hv212 : v212 = k1_pay51 (F := F) v191 v210)
    (hv215 : v215 = k1_pay52 (F := F) v191)
    (hv218 : v218 = k1_pay53 (F := F) v191)
    (hv221 : v221 = k1_pay54 (F := F) v191)
    (hv224 : v224 = k1_pay55 (F := F) v191)
    (hv227 : v227 = k1_pay56 (F := F) v191)
    (hv230 : v230 = k1_pay57 (F := F) v191)
    (hv233 : v233 = k1_pay58 (F := F) v191)
    (hv236 : v236 = k1_pay59 (F := F) v191)
    (hv250 : v250 = k1_pay60 (F := F) v191 v194 v197 v200 v203 v206 v209 v210)
    (hv252 : v252 = k1_pay61 (F := F) v191 v194 v197 v200 v203 v206 v209 v210)
    (hv254 : v254 = k1_pay62 (F := F) v191 v194 v197 v200 v203 v206 v209 v210)
    (hv256 : v256 = k1_pay63 (F := F) v191 v194 v197 v200 v203 v206 v209 v210)
    (hv258 : v258 = k1_pay64 (F := F) v191 v194 v197 v200 v203 v206 v209 v210)
    (hv260 : v260 = k1_pay65 (F := F) v191 v194 v197 v200 v203 v206 v209 v210)
    (hv262 : v262 = k1_pay66 (F := F) v191 v194 v197 v200 v203 v206 v209 v210) :
    k1_pay67 v190 v212 v215 v218 v221 v224 v227 v230 v233 v236 v250 v252 v254 v256 v258 v260 v262 = dpCum (k1_pay42 v137 v140 v143 v146 v149 v152 v155 v156 v157) := by
  subst hv190 hv191 hv194 hv197 hv200 hv203 hv206 hv209 hv210 hv212 hv215 hv218 hv221 hv224 hv227 hv230 hv233 hv236 hv250 hv252 hv254 hv256 hv258 hv260 hv262
  rfl

/-- What is stored is the log-sum of the shifted prefix sums and the log-weights less the scale. -/
theorem new_eq (w : F .f32) (p : FVec F S16x128 .f32) (v190 : FVec F S16x128 .f32) (v212 : FVec F S16x1 .f32) (v215 : FVec F S16x1 .f32) (v218 : FVec F S16x1 .f32) (v221 : FVec F S16x1 .f32) (v224 : FVec F S16x1 .f32) (v227 : FVec F S16x1 .f32) (v230 : FVec F S16x1 .f32) (v233 : FVec F S16x1 .f32) (v236 : FVec F S16x1 .f32) (v250 : FVec F S16x1 .f32) (v252 : FVec F S16x1 .f32) (v254 : FVec F S16x1 .f32) (v256 : FVec F S16x1 .f32) (v258 : FVec F S16x1 .f32) (v260 : FVec F S16x1 .f32) (v262 : FVec F S16x1 .f32)
    (v315 : FVec F S16x128 .f32) (v319 : FVec F S16x128 .f32)
    (hv315 : v315 = k1_pay70 (F := F) w p v190 v212 v215 v218 v221 v224 v227 v230 v233 v236 v250 v252 v254 v256 v258 v260 v262)
    (hv319 : v319 = k1_pay71 (F := F) w p v190 v212 v215 v218 v221 v224 v227 v230 v233 v236 v250 v252 v254 v256 v258 v260 v262) :
    k1_pay3 v315 v319 = shapeCast S16x128 (plse (dpShift (k1_pay67 v190 v212 v215 v218 v221 v224 v227 v230 v233 v236 v250 v252 v254 v256 v258 v260 v262)) (k1_pay69 w p)) shapeCasts_S16x128_S16x128 := by
  subst hv315 hv319
  rfl

/-- The stored log-weights, from the prefix sums. -/
theorem dpP_of (w : F .f32) (row : FVec F S1x16x128 .f32) (p : FVec F S16x128 .f32) {out z : FVec F S16x128 .f32}
    (ho : out = shapeCast S16x128 (plse (dpShift z) (k1_pay69 w p)) shapeCasts_S16x128_S16x128)
    (hz : z = dpCum (lane2 (lane1 (k1_pay6 w row p)))) : out = dpP w row p := by
  subst hz; exact ho

/-- The stored last log-weight, from the prefix sums. -/
theorem dpLast_of (w : F .f32) (row : FVec F S1x16x128 .f32) (p : FVec F S16x128 .f32) (pl : FVec F S1x1 .f32) {z : FVec F S16x128 .f32}
    (hz : z = dpCum (lane2 (lane1 (k1_pay6 w row p)))) : k1_pay4 w z pl = dpLast w row p pl := by
  subst hz; rfl

/-- `dpP` of equal things. -/
theorem dpP_congr {w w' : F .f32} {row row' : FVec F S1x16x128 .f32} {p p' : FVec F S16x128 .f32} (hw : w = w') (hr : row = row') (hp : p = p') :
    dpP w row p = dpP w' row' p' := by subst hw hr hp; rfl

/-- `dpLast` of equal things. -/
theorem dpLast_congr {w w' : F .f32} {row row' : FVec F S1x16x128 .f32} {p p' : FVec F S16x128 .f32} {l l' : FVec F S1x1 .f32}
    (hw : w = w') (hr : row = row') (hp : p = p') (hl : l = l') :
    dpLast w row p l = dpLast w' row' p' l' := by subst hw hr hp hl; rfl

/-- Trip `k` on the two blocks (`x0` the exponentials, `x1` the scales) and the two buffers carried. -/
def dpTrip (x0 : Vec F S256x16x128 .f32) (x1 : Vec F S256x1 .f32) (k : Fin k1_t1_loop.trips) (s : Vec F S16x128 .f32 × Vec F S1x1 .f32) :
    Vec F S16x128 .f32 × Vec F S1x1 .f32 :=
  (dpP (View.ld x1 (Rect.unit (s := S256x1) (k1_off1 k) S1x1.size (k1_off1_inb k)) (Shape.Idx.first (show 0 < S1x1.numel by decide)))
      (View.ld x0 (Rect.unit (s := S256x16x128) (k1_off2 k) S1x16x128.size (k1_off2_inb k))) s.1,
    dpLast (View.ld x1 (Rect.unit (s := S256x1) (k1_off1 k) S1x1.size (k1_off1_inb k)) (Shape.Idx.first (show 0 < S1x1.numel by decide)))
      (View.ld x0 (Rect.unit (s := S256x16x128) (k1_off2 k) S1x16x128.size (k1_off2_inb k))) s.1 s.2)

/-- The log-weights a trip leaves. -/
theorem dpTrip_fst (x0 : Vec F S256x16x128 .f32) (x1 : Vec F S256x1 .f32) (k : Fin k1_t1_loop.trips) (a : Vec F S16x128 .f32) (b : Vec F S1x1 .f32) :
    (dpTrip x0 x1 k (a, b)).1 = dpP (View.ld x1 (Rect.unit (s := S256x1) (k1_off1 k) S1x1.size (k1_off1_inb k)) (Shape.Idx.first (show 0 < S1x1.numel by decide)))
      (View.ld x0 (Rect.unit (s := S256x16x128) (k1_off2 k) S1x16x128.size (k1_off2_inb k))) a := rfl

/-- The last log-weight a trip leaves. -/
theorem dpTrip_snd (x0 : Vec F S256x16x128 .f32) (x1 : Vec F S256x1 .f32) (k : Fin k1_t1_loop.trips) (a : Vec F S16x128 .f32) (b : Vec F S1x1 .f32) :
    (dpTrip x0 x1 k (a, b)).2 = dpLast (View.ld x1 (Rect.unit (s := S256x1) (k1_off1 k) S1x1.size (k1_off1_inb k)) (Shape.Idx.first (show 0 < S1x1.numel by decide)))
      (View.ld x0 (Rect.unit (s := S256x16x128) (k1_off2 k) S1x16x128.size (k1_off2_inb k))) a b := rfl

/-- The buffers before trip `n`. -/
def dpIter (x0 : Vec F S256x16x128 .f32) (x1 : Vec F S256x1 .f32) (s : Vec F S16x128 .f32 × Vec F S1x1 .f32) :
    ℕ → Vec F S16x128 .f32 × Vec F S1x1 .f32
  | 0 => s
  | n + 1 => if h : n < k1_t1_loop.trips then dpTrip x0 x1 ⟨n, h⟩ (dpIter x0 x1 s n) else dpIter x0 x1 s n

theorem dpIter_succ (x0 : Vec F S256x16x128 .f32) (x1 : Vec F S256x1 .f32) (s : Vec F S16x128 .f32 × Vec F S1x1 .f32)
    (k : Fin k1_t1_loop.trips) : dpIter x0 x1 s (k.val + 1) = dpTrip x0 x1 k (dpIter x0 x1 s k.val) := by
  rw [dpIter, dif_pos k.isLt]

abbrev rP : Rect S16x128 := Rect.unit (s := S16x128) ![0, 0] S16x128.size inb_S16x128_S16x128_0_0
abbrev rL : Rect S1x1 := Rect.unit (s := S1x1) ![0, 0] S1x1.size inb_S1x1_S1x1_0_0

theorem coverP (L : List (View.Piece (Elt F) S16x128 .f32)) (p0 : Vec F S16x128 .f32) (y : S16x128.Idx) :
    ∃ pc ∈ ((⟨rP, p0⟩ : View.Piece (Elt F) S16x128 .f32) :: L), y ∈ pc.1.set :=
  ⟨_, List.mem_cons_self, by
    have := View.cover_of_tiled [(⟨rP, p0⟩ : View.Piece (Elt F) S16x128 .f32)] S16x128.size (by rfl) y
    obtain ⟨pc, h, hy⟩ := this
    rw [List.mem_singleton] at h; subst h; exact hy⟩
theorem coverL (L : List (View.Piece (Elt F) S1x1 .f32)) (p0 : Vec F S1x1 .f32) (y : S1x1.Idx) :
    ∃ pc ∈ ((⟨rL, p0⟩ : View.Piece (Elt F) S1x1 .f32) :: L), y ∈ pc.1.set :=
  ⟨_, List.mem_cons_self, by
    have := View.cover_of_tiled [(⟨rL, p0⟩ : View.Piece (Elt F) S1x1 .f32)] S1x1.size (by rfl) y
    obtain ⟨pc, h, hy⟩ := this
    rw [List.mem_singleton] at h; subst h; exact hy⟩

section Trip
variable (𝒱 : Variants) (c : Dev nD) (bd : Option 𝒱.V) (E : Set ℕ) (i : grid1.Coords)
  (arg1 : Memref sig .tc .vmem S256x16x128 .f32) (harg1 : arg1.IsWhole) (arg2 : Memref sig .tc .smem S256x1 .f32) (harg2 : arg2.IsWhole)
  (arg3 : Memref sig .tc .vmem S1x1 .f32) (harg3 : arg3.IsWhole) (arg4 : Memref sig .tc .vmem S16x128 .f32) (harg4 : arg4.IsWhole)
  (arg5 : Memref sig .tc .vmem S1x1 .f32) (harg5 : arg5.IsWhole)

set_option maxHeartbeats 1000000 in
/-- One trip on whole memrefs: the blocks stay, the two buffers carried end as `dpTrip` says. -/
theorem trip_run (X1 : BufTy.Contents (Elt F) arg1.view.ty) (X2 : BufTy.Contents (Elt F) arg2.view.ty)
    (f4 : BufTy.Contents (Elt F) arg4.view.ty) (f5 : BufTy.Contents (Elt F) arg5.view.ty) (k : Fin k1_t1_loop.trips) :
    (iprop((arg1.view.loc (c : Thread nD τ) ↦[arg1.view.set]{fullShare} X1) ∗ (arg2.view.loc (c : Thread nD τ) ↦[arg2.view.set]{fullShare} X2)
        ∗ (arg4.view.loc (c : Thread nD τ) ↦[arg4.view.set]{fullShare} f4) ∗ (arg5.view.loc (c : Thread nD τ) ↦[arg5.view.set]{fullShare} f5)) : sProp 𝕄)
      ⊢ wp frame (wpE (defs₀ (F := F)) 𝒱 (c : Thread nD τ) bd) E (k1_t1_body (F := F) i arg1 harg1 arg2 harg2 arg3 harg3 arg4 harg4 arg5 harg5 k PUnit.unit)
          (fun _ => iprop((arg1.view.loc (c : Thread nD τ) ↦[arg1.view.set]{fullShare} X1) ∗ (arg2.view.loc (c : Thread nD τ) ↦[arg2.view.set]{fullShare} X2)
            ∗ (∃ f, (arg4.view.loc (c : Thread nD τ) ↦[arg4.view.set]{fullShare} f) ∗ ⌜arg4.view.read (Elt F) f = (dpTrip (arg1.view.read (Elt F) X1) (arg2.view.read (Elt F) X2) k (arg4.view.read (Elt F) f4, arg5.view.read (Elt F) f5)).1⌝)
            ∗ (∃ f, (arg5.view.loc (c : Thread nD τ) ↦[arg5.view.set]{fullShare} f) ∗ ⌜arg5.view.read (Elt F) f = (dpTrip (arg1.view.read (Elt F) X1) (arg2.view.read (Elt F) X2) k (arg4.view.read (Elt F) f4, arg5.view.read (Elt F) f5)).2⌝))) := by
  have hk : k.val < 256 := Nat.lt_of_lt_of_le k.isLt k1_t1_abs.2.1
  have hp : View.readAt (Elt F) arg4.view rP.toLoadRect f4 = arg4.view.read (Elt F) f4 :=
    View.ld_unit_zero (by funext a; fin_cases a <;> rfl) _ _
  have hl : View.readAt (Elt F) arg5.view rL.toLoadRect f5 = arg5.view.read (Elt F) f5 :=
    View.ld_unit_zero (by funext a; fin_cases a <;> rfl) _ _
  unfold k1_t1_body
  iintro ⟨H1, H2, H4, H5⟩
  sl_exec
  sl_step
  isplitl [H1]; · iexact H1
  isplitl [H2]; · iexact H2
  isplitl [H4]
  · iexists _; isplitl [H4]; · iexact H4
    ipureintro
    refine (View.read_writes_eq_canon _ _ _ (coverP _ _)).trans ?_
    refine (View.canon_unit_zero (by funext a; fin_cases a <;> rfl) _ _).trans ?_
    rw [dpTrip_fst]
    exact (dpP_of _ _ _ (new_eq _ _ _ _ _ _ _ _ _ _ _ _ _ _ _ _ _ _ _ _ _ rfl rfl) ((cum_eq _ _ _ _ _ _ _ _ _ _ _ _ _ _ _ _ _ _ _ _ _ _ _ _ _ _ _ _ _ _ _ _ _ _ rfl rfl rfl rfl rfl rfl rfl rfl rfl rfl rfl rfl rfl rfl rfl rfl rfl rfl rfl rfl rfl rfl rfl rfl rfl ).trans (congrArg dpCum ((lane2_eq _ _ _ _ _ _ _ _ _ _ _ _ _ _ _ _ _ _ _ _ _ _ _ _ _ _ rfl rfl rfl rfl rfl rfl rfl rfl rfl ).trans (congrArg lane2 (lane1_eq _ _ _ _ _ _ _ _ _ _ _ _ _ _ _ _ _ _ _ _ _ _ _ _ _ _ _ _ _ _ rfl rfl rfl rfl rfl rfl rfl rfl rfl rfl rfl rfl rfl rfl rfl rfl rfl rfl rfl rfl rfl rfl rfl rfl rfl rfl rfl )))))).trans (dpP_congr rfl rfl (by first | rfl | exact hp | (unfold trip_run.sl.r_1; first | rfl | exact hp)))
  iexists _; isplitl [H5]; · iexact H5
  ipureintro
  refine (View.read_writes_eq_canon _ _ _ (coverL _ _)).trans ?_
  refine (View.canon_unit_zero (by funext a; fin_cases a <;> rfl) _ _).trans ?_
  rw [dpTrip_snd]
  exact (dpLast_of _ _ _ _ ((cum_eq _ _ _ _ _ _ _ _ _ _ _ _ _ _ _ _ _ _ _ _ _ _ _ _ _ _ _ _ _ _ _ _ _ _ rfl rfl rfl rfl rfl rfl rfl rfl rfl rfl rfl rfl rfl rfl rfl rfl rfl rfl rfl rfl rfl rfl rfl rfl rfl ).trans (congrArg dpCum ((lane2_eq _ _ _ _ _ _ _ _ _ _ _ _ _ _ _ _ _ _ _ _ _ _ _ _ _ _ rfl rfl rfl rfl rfl rfl rfl rfl rfl ).trans (congrArg lane2 (lane1_eq _ _ _ _ _ _ _ _ _ _ _ _ _ _ _ _ _ _ _ _ _ _ _ _ _ _ _ _ _ _ rfl rfl rfl rfl rfl rfl rfl rfl rfl rfl rfl rfl rfl rfl rfl rfl rfl rfl rfl rfl rfl rfl rfl rfl rfl rfl rfl )))))).trans (dpLast_congr rfl rfl (by first | rfl | exact hp | (unfold trip_run.sl.r_1; first | rfl | exact hp)) (by first | rfl | exact hl))

end Trip

end Cert.KernelIdeal.Hand

end
-- ==== Proof.DpLoop.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.DpStep
public import Idealize.ShloMosaic.Lib.Pipeline.Value
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The loop of the second launch, and its body at a point -/

section Loop
variable (𝒱 : Variants) (c : Dev nD) (bd : Option 𝒱.V) (E : Set ℕ) (i : grid1.Coords)
  (arg1 : Memref sig .tc .vmem S256x16x128 .f32) (harg1 : arg1.IsWhole) (arg2 : Memref sig .tc .smem S256x1 .f32) (harg2 : arg2.IsWhole)
  (arg3 : Memref sig .tc .vmem S1x1 .f32) (harg3 : arg3.IsWhole) (arg4 : Memref sig .tc .vmem S16x128 .f32) (harg4 : arg4.IsWhole)
  (arg5 : Memref sig .tc .vmem S1x1 .f32) (harg5 : arg5.IsWhole)

/-- What holds before trip `k`: the two blocks as read, the two buffers carried as `dpIter` says. -/
abbrev loopAt (X1 : BufTy.Contents (Elt F) arg1.view.ty) (X2 : BufTy.Contents (Elt F) arg2.view.ty)
    (s : Vec F S16x128 .f32 × Vec F S1x1 .f32) (k : ℕ) : sProp 𝕄 :=
  iprop((arg1.view.loc (c : Thread nD τ) ↦[arg1.view.set]{fullShare} X1) ∗ (arg2.view.loc (c : Thread nD τ) ↦[arg2.view.set]{fullShare} X2)
    ∗ (∃ f, (arg4.view.loc (c : Thread nD τ) ↦[arg4.view.set]{fullShare} f) ∗ ⌜arg4.view.read (Elt F) f = (dpIter (arg1.view.read (Elt F) X1) (arg2.view.read (Elt F) X2) s k).1⌝)
    ∗ (∃ f, (arg5.view.loc (c : Thread nD τ) ↦[arg5.view.set]{fullShare} f) ∗ ⌜arg5.view.read (Elt F) f = (dpIter (arg1.view.read (Elt F) X1) (arg2.view.read (Elt F) X2) s k).2⌝))

/-- The loop keeps `loopAt`: one trip advances it by one. -/
theorem loop_step (X1 : BufTy.Contents (Elt F) arg1.view.ty) (X2 : BufTy.Contents (Elt F) arg2.view.ty)
    (s : Vec F S16x128 .f32 × Vec F S1x1 .f32) (k : Fin k1_t1_loop.trips) :
    (loopAt (F := F) c arg1 arg2 arg4 arg5 X1 X2 s k.val : sProp 𝕄)
      ⊢ wp frame (wpE (defs₀ (F := F)) 𝒱 (c : Thread nD τ) bd) E (k1_t1_body (F := F) i arg1 harg1 arg2 harg2 arg3 harg3 arg4 harg4 arg5 harg5 k PUnit.unit)
          (fun _ => loopAt (F := F) c arg1 arg2 arg4 arg5 X1 X2 s (k.val + 1)) := by
  iintro ⟨H1, H2, ⟨%f4, H4, %h4⟩, ⟨%f5, H5, %h5⟩⟩
  iapply (wp_wand_r frame (wpE (defs₀ (F := F)) 𝒱 (c : Thread nD τ) bd) E)
  isplitl [H1 H2 H4 H5]
  · iapply (trip_run (F := F) 𝒱 c bd E i arg1 harg1 arg2 harg2 arg3 harg3 arg4 harg4 arg5 harg5 X1 X2 f4 f5 k)
    isplitl [H1]; · iexact H1
    isplitl [H2]; · iexact H2
    isplitl [H4]; · iexact H4
    iexact H5
  · iintro %_ ⟨H1, H2, ⟨%g4, H4, %e4⟩, ⟨%g5, H5, %e5⟩⟩
    isplitl [H1]; · iexact H1
    isplitl [H2]; · iexact H2
    rw [dpIter_succ]
    isplitl [H4]
    · iexists _; isplitl [H4]; · iexact H4
      ipureintro; rw [e4, h4, h5]
    iexists _; isplitl [H5]; · iexact H5
    ipureintro; rw [e5, h4, h5]

/-- The loop's invariant for the program logic: `loopAt` from the state the loop is entered with. -/
abbrev LoopTy := LoopInv (M := MT nD τ sig Unit (Elt F) ℕ (UR sig nD τ) ℕ) Idealize.ShloMosaic.frame (wpE (defs₀ (F := F)) 𝒱 (c : Thread nD τ) bd) E
    k1_t1_loop.lb k1_t1_loop.ub k1_t1_loop.st k1_t1_ok () (k1_t1_body (F := F) i arg1 harg1 arg2 harg2 arg3 harg3 arg4 harg4 arg5 harg5)

set_option warn.classDefReducibility false in
/-- The invariant at the start `s`. -/
@[sl_loop] def loopInv (X1 : BufTy.Contents (Elt F) arg1.view.ty) (X2 : BufTy.Contents (Elt F) arg2.view.ty) (s : Vec F S16x128 .f32 × Vec F S1x1 .f32) :
    LoopTy (F := F) 𝒱 c bd E i arg1 harg1 arg2 harg2 arg3 harg3 arg4 harg4 arg5 harg5 where
  inv k _ := loopAt (F := F) c arg1 arg2 arg4 arg5 X1 X2 s k
  step k acc := loop_step (F := F) 𝒱 c bd E i arg1 harg1 arg2 harg2 arg3 harg3 arg4 harg4 arg5 harg5 X1 X2 s k

end Loop

/-! ## The kernel body -/

/-- The condition of the body's branch: the first point. -/
abbrev atFirst (i : grid1.Coords) : Prop := (Scalar.cmpi .ne (Scalar.extui (Scalar.cmpi .eq (BitVec.ofNat 32 (i 0).val) 0#32)) 0#32) = 1#1

/-- It holds at the first point only. -/
theorem atFirst_iff : ∀ t : Fin cfg1.N, atFirst (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    rw [show t.val = 0 ↔ t.val % 8 = 0 from by omega]
    simp only [atFirst, e0]
    word_cmp
   : ∀ t : Fin grid1.N, atFirst (grid1.coords t) ↔ t.val = 0)

/-- What the loop's buffers hold when the first point starts its loop. -/
def dpStart : Vec F S16x128 .f32 × Vec F S1x1 .f32 := (k1_pay1 (F := F), k1_pay2 (F := F))

section Body
variable (c : Dev nD) (i : grid1.Coords)
  (arg1 : Memref sig .tc .vmem S256x16x128 .f32) (harg1 : arg1.IsWhole) (arg2 : Memref sig .tc .smem S256x1 .f32) (harg2 : arg2.IsWhole)
  (arg3 : Memref sig .tc .vmem S1x1 .f32) (harg3 : arg3.IsWhole) (arg4 : Memref sig .tc .vmem S16x128 .f32) (harg4 : arg4.IsWhole)
  (arg5 : Memref sig .tc .vmem S1x1 .f32) (harg5 : arg5.IsWhole)
  (x0 : Vec F S256x16x128 .f32) (x1 : Vec F S256x1 .f32)

set_option maxHeartbeats 1000000 in
/-- The body at the first point: it resets the two buffers, runs the loop, and stores the scaled last log-weight. -/
theorem body_first (hc0 : atFirst i) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k1_pay5 (dpIter x0 x1 dpStart k1_t1_loop.trips).2)
            ∗ owns (c : Thread nD τ) arg4 fullShare (dpIter x0 x1 dpStart k1_t1_loop.trips).1
            ∗ owns (c : Thread nD τ) arg5 fullShare (dpIter x0 x1 dpStart k1_t1_loop.trips).2) -∗ K ⟨⟩))
      ⊢ wp frame (wpE (defs₀ (F := F)) Variants.none c none) E (cc1__dp_kernel i arg1 harg1 arg2 harg2 arg3 harg3 arg4 harg4 arg5 harg5) K := by
  simp only [cc1__dp_kernel_eq_skeleton]; unfold cc1__dp_kernel_skel
  unfold owns
  iintro ⟨⟨%f0, %hf0, H0⟩, ⟨%f1, %hf1, H1⟩, ⟨%d2, %f2, -, H2⟩, ⟨%ds0, %fs0, -, HS0⟩, ⟨%ds1, %fs1, -, HS1⟩, Hk⟩
  subst hf0 hf1
  sl_exec (disch := first | sl_exact hc0)
  have h4 : arg4.view.read (Elt F) (arg4.view.writes (Elt F) arg4.view.junk [⟨rP, k1_pay1 (F := F)⟩]) = (dpStart (F := F)).1 :=
    (View.read_writes_eq_canon _ _ _ (coverP _ _)).trans (View.canon_unit_zero (by funext a; fin_cases a <;> rfl) _ _)
  have h5 : arg5.view.read (Elt F) (arg5.view.writes (Elt F) arg5.view.junk [⟨rL, k1_pay2 (F := F)⟩]) = (dpStart (F := F)).2 :=
    (View.read_writes_eq_canon _ _ _ (coverL _ _)).trans (View.canon_unit_zero (by funext a; fin_cases a <;> rfl) _ _)
  let I := loopInv (F := F) Variants.none c none E i arg1 harg1 arg2 harg2 arg3 harg3 arg4 harg4 arg5 harg5 f0 f1 dpStart
  sl_exec
  sl_step
  have h6 : View.readAt (Elt F) arg5.view rL.toLoadRect fL1 = arg5.view.read (Elt F) fL1 :=
    View.ld_unit_zero (by funext a; fin_cases a <;> rfl) _ _
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro
    refine (View.read_writes_eq_canon _ _ _ (coverL _ _)).trans ((View.canon_unit_zero (by funext a; fin_cases a <;> rfl) _ _).trans ?_)
    refine congrArg k1_pay5 (h6.trans ?_)
    assumption
  isplitl [HS0]
  · iexists _; isplitr; swap; · iexact HS0
    ipureintro; assumption
  iexists _; isplitr; swap; · iexact HS1
  ipureintro; assumption

set_option maxHeartbeats 1000000 in
/-- The body at a later point: the loop goes on from what the buffers hold. -/
theorem body_later (hc0 : ¬ atFirst i) (s : Vec F S16x128 .f32 × Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s.1 ∗ owns (c : Thread nD τ) arg5 fullShare s.2
        ∗ (iprop(owns (c : Thread nD τ) arg1 fullShare x0 ∗ owns (c : Thread nD τ) arg2 fullShare x1
            ∗ owns (c : Thread nD τ) arg3 fullShare (k1_pay5 (dpIter x0 x1 s k1_t1_loop.trips).2)
            ∗ owns (c : Thread nD τ) arg4 fullShare (dpIter x0 x1 s k1_t1_loop.trips).1
            ∗ owns (c : Thread nD τ) arg5 fullShare (dpIter x0 x1 s k1_t1_loop.trips).2) -∗ K ⟨⟩))
      ⊢ wp frame (wpE (defs₀ (F := F)) Variants.none c none) E (cc1__dp_kernel i arg1 harg1 arg2 harg2 arg3 harg3 arg4 harg4 arg5 harg5) K := by
  obtain ⟨s0, s1⟩ := s
  simp only [cc1__dp_kernel_eq_skeleton]; unfold cc1__dp_kernel_skel
  unfold owns
  iintro ⟨⟨%f0, %hf0, H0⟩, ⟨%f1, %hf1, H1⟩, ⟨%d2, %f2, -, H2⟩, ⟨%fs0, %hs0, HS0⟩, ⟨%fs1, %hs1, HS1⟩, Hk⟩
  subst hf0 hf1
  let I := loopInv (F := F) Variants.none c none E i arg1 harg1 arg2 harg2 arg3 harg3 arg4 harg4 arg5 harg5 f0 f1 (s0, s1)
  sl_exec (disch := first | sl_exact hc0)
  sl_step
  have h6 : View.readAt (Elt F) arg5.view rL.toLoadRect fL1 = arg5.view.read (Elt F) fL1 :=
    View.ld_unit_zero (by funext a; fin_cases a <;> rfl) _ _
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro
    refine (View.read_writes_eq_canon _ _ _ (coverL _ _)).trans ((View.canon_unit_zero (by funext a; fin_cases a <;> rfl) _ _).trans ?_)
    refine congrArg k1_pay5 (h6.trans ?_)
    assumption
  isplitl [HS0]
  · iexists _; isplitr; swap; · iexact HS0
    ipureintro; assumption
  iexists _; isplitr; swap; · iexact HS1
  ipureintro; assumption

end Body

end Cert.KernelIdeal.Hand

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.DpLoop
public import Idealize.ShloMosaic.Lib.Pipeline.Value
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! # The second launch: the recursion, point by point -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of input 0 holds that input's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The buffer of input 1 holds that input's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two buffers carried between points. -/
abbrev scM1_0 : Memref sig .tc .vmem S16x128 .f32 := Memref.whole cc1_scratch0
abbrev scM1_1 : Memref sig .tc .vmem S1x1 .f32 := Memref.whole cc1_scratch1

/-- What rides along untouched: the generator register and the staging buffers of the first launch, at any contents. -/
def rest1 (c : Dev nD) : sProp 𝕄 :=
  iprop((∃ r, prngReg c r) ∗ (∃ f, (c : Thread nD τ).loc cc0_stg0_0 ↦{fullShare} f) ∗ (∃ f, (c : Thread nD τ).loc cc0_stg0_1 ↦{fullShare} f) ∗ (∃ f, (c : Thread nD τ).loc cc0_stg1_0 ↦{fullShare} f) ∗ (∃ f, (c : Thread nD τ).loc cc0_stg2_0 ↦{fullShare} f) ∗ (∃ f, (c : Thread nD τ).loc cc0_stg2_1 ↦{fullShare} f) ∗ (∃ f, (c : Thread nD τ).loc cc0_stg3_0 ↦{fullShare} f) ∗ (∃ f, (c : Thread nD τ).loc cc0_stg3_1 ↦{fullShare} f))

/-- The two buffers at any contents, and the rest. -/
def start1 (c : Dev nD) : sProp 𝕄 :=
  iprop(iprop((∃ d, owns (c : Thread nD τ) scM1_0 fullShare d) ∗ (∃ d, owns (c : Thread nD τ) scM1_1 fullShare d)) ∗ rest1 (F := F) c)

/-- What the launch hands the region is `start1`. -/
theorem start1_in (c : Dev nD) : (Pipeline.ΦA spec1 c : sProp 𝕄) ⊢ start1 (F := F) c := by
  unfold Pipeline.ΦA start1 rest1; rw [scopedRest1_eq]; simp only [scM1_0, scM1_1, owns_whole]
  iintro ⟨⟨B0, B1, B2, B3, B4, B5, B6, HS0, HS1⟩, Hg⟩
  isplitl [HS0 HS1]
  · isplitl [HS0]; · iexact HS0
    iexact HS1
  isplitl [Hg]; · iexact Hg
  isplitl [B0]; · iexact B0
  isplitl [B1]; · iexact B1
  isplitl [B2]; · iexact B2
  isplitl [B3]; · iexact B3
  isplitl [B4]; · iexact B4
  isplitl [B5]; · iexact B5
  iexact B6

/-- And back. -/
theorem start1_out (c : Dev nD) : start1 (F := F) c ⊢ (Pipeline.ΦA spec1 c : sProp 𝕄) := by
  unfold Pipeline.ΦA start1 rest1; rw [scopedRest1_eq]; simp only [scM1_0, scM1_1, owns_whole]
  iintro ⟨⟨HS0, HS1⟩, Hg, B0, B1, B2, B3, B4, B5, B6⟩
  isplitl [B0 B1 B2 B3 B4 B5 B6 HS0 HS1]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [HS0]; · iexact HS0
    iexact HS1
  iexact Hg

/-- The two buffers before point `n`: the start, then one loop per point. -/
def dpBuf (c : Dev nD) : ℕ → Vec F S16x128 .f32 × Vec F S1x1 .f32
  | 0 => dpStart
  | n + 1 => if h : n < cfg1.N then dpIter (iblk1 V c 0 ⟨n, h⟩) (iblk1 V c 1 ⟨n, h⟩) (dpBuf c n) k1_t1_loop.trips else dpBuf c n

theorem dpBuf_succ (c : Dev nD) (t : Fin cfg1.N) :
    dpBuf V c (t.val + 1) = dpIter (iblk1 V c 0 t) (iblk1 V c 1 t) (dpBuf V c t.val) k1_t1_loop.trips := by
  rw [dpBuf, dif_pos t.isLt]

/-- The region's invariant before point `n`. -/
def PhiS (c : Dev nD) : ℕ → sProp 𝕄
  | 0 => start1 (F := F) c
  | n + 1 => iprop(iprop(owns (c : Thread nD τ) scM1_0 fullShare (dpBuf V c (n + 1)).1 ∗ owns (c : Thread nD τ) scM1_1 fullShare (dpBuf V c (n + 1)).2) ∗ rest1 (F := F) c)

theorem PhiS_zero (c : Dev nD) (n : ℕ) (hz : n = 0) : PhiS V c n = start1 (F := F) c := by
  subst hz; rfl

theorem PhiS_pos (c : Dev nD) (n : ℕ) (hz : n ≠ 0) :
    PhiS V c n = iprop(iprop(owns (c : Thread nD τ) scM1_0 fullShare (dpBuf V c n).1 ∗ owns (c : Thread nD τ) scM1_1 fullShare (dpBuf V c n).2) ∗ rest1 (F := F) c) := by
  cases n with
  | zero => exact absurd rfl hz
  | succ n => rfl

/-- The proof data of the second launch: the arrays as entered; after the body at a point the two input blocks in
    place and the output at the scaled last log-weight. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (dpBuf V c (t.val + 1)).2
  Φ t := PhiS V c t.val
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay5 (dpBuf V c (t.val + 1)).2 := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, after1_0, after1_1, after1_2]
  rw [show (dat1 V c).Φ t.succ = PhiS V c (t.val + 1) from rfl, PhiS_pos V c _ (Nat.succ_ne_zero _),
    show (dat1 V c).Φ t.castSucc = PhiS V c t.val from rfl, dpBuf_succ V c t]
  by_cases hz : t.val = 0
  · rw [PhiS_zero V c _ hz, start1, show dpBuf V c t.val = dpStart from by rw [hz]; rfl]
    iintro ⟨⟨⟨HS0, HS1⟩, Hg⟩, Ho, ⟨%d0, H0⟩, ⟨%d1, H1⟩, ⟨%d2, H2⟩⟩
    iapply (body_first (F := F) c (grid1.coords t) _ _ _ _ _ _ _ (Memref.isWhole_whole _) _ (Memref.isWhole_whole _) (iblk1 V c 0 t) (iblk1 V c 1 t) ((atFirst_iff t).mpr hz) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexact H2
  · rw [PhiS_pos V c _ hz]
    iintro ⟨⟨⟨HS0, HS1⟩, Hg⟩, Ho, ⟨%d0, H0⟩, ⟨%d1, H1⟩, ⟨%d2, H2⟩⟩
    iapply (body_later (F := F) c (grid1.coords t) _ _ _ _ _ _ _ (Memref.isWhole_whole _) _ (Memref.isWhole_whole _) (iblk1 V c 0 t) (iblk1 V c 1 t) (fun h => hz ((atFirst_iff t).mp h)) (dpBuf V c t.val) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexact H2

/-- The body at point `t`, named. -/
theorem defs₀_row1 (t : Fin cfg1.N) :
    defs₀ (F := F) .tc cfg1.body (cfg1.bodyArgs t (cfg1.slots t)) = bodyAt1 t := by
  unfold defs₀; rw [Defs.onTc_tc]

/-- The body's obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : Pipeline.ΦA spec1 c ⊢ (dat1 V c).Φ 0 := by
  rw [show (dat1 V c).Φ 0 = PhiS V c 0 from rfl, PhiS_zero V c 0 rfl]
  exact start1_in c

/-- After the last point the invariant gives the buffers back. -/
theorem hout1 (c : Dev nD) : (dat1 V c).Φ (Fin.last cfg1.N) ⊢ Pipeline.ΦA spec1 c := by
  rw [show (dat1 V c).Φ (Fin.last cfg1.N) = PhiS V c cfg1.N from rfl,
    PhiS_pos V c _ (by have : cfg1.N = 8 := N_1; omega)]
  iintro ⟨⟨HS0, HS1⟩, Hg⟩
  iapply (start1_out (F := F) c)
  unfold start1
  isplitl [HS0 HS1]
  · isplitl [HS0]
    · iexists _; iexact HS0
    iexists _; iexact HS1
  iexact Hg

end Cert.KernelIdeal.Hand

end
-- ==== Proof.DpVal.lean ====
module

public import proofs.«01_k».proof.Proof.DpStep
public import proofs.«01_k».proof.Proof.Cost
public import proofs.«01_k».proof.Proof.Layout

@[expose] public section

noncomputable section

/-! # One trip, in weights

    The buffer of log-weights holds `L (u (128 r + c))` in row `r`, column `c`. The shifts, the two sums over shifts and
    the carry over the rows turn it into prefix sums of the weights. -/

namespace Cert.KernelIdeal.Val

open Idealize.ShloMosaic
open Cert.KernelIdeal Cert.KernelIdeal.Gen Cert.KernelIdeal.Hand Cert.Weights
open scoped NNReal

/-- The filling constant is the logarithm of zero. -/
theorem maskC_ideal : maskC (F := Ideal) = ⊥ := by
  unfold maskC
  exact IdealRules.named_const.ideal_named_scalar _ _ _ _ rfl

/-- A shift along the columns, of weights. -/
theorem shiftC_apply {d e : ℕ} (hs : S16x128.Slices ![0, 0] ⟨2, ![16, e]⟩) (hc : Shape.Concatenates [⟨2, ![16, d]⟩, ⟨2, ![16, e]⟩] S16x128 1)
    (hde : d + e = 128) (x : FVec Ideal S16x128 .f32) (u : ℕ → ℝ≥0) (r : Fin 16) (hx : ∀ c : Fin 128, x (ix2 r c) = L (u c)) (c : Fin 128) :
    shiftC hs hc x (ix2 r c) = L (if d ≤ c.val then u (c.val - d) else 0) := by
  unfold shiftC
  split
  · rename_i h
    refine (Layout.beside_hi _ _ hc r ⟨c.val - d, by omega⟩ c (by show c.val = c.val - d + d; omega)).trans ?_
    rw [← hx ⟨c.val - d, by omega⟩]
    refine congrArg x ?_
    funext a
    refine Fin.ext ?_
    match a with
    | ⟨0, _⟩ => exact Nat.zero_add _
    | ⟨1, _⟩ => exact Nat.zero_add _
  · rename_i h
    refine (Layout.beside_lo _ _ hc r ⟨c.val, by omega⟩ c rfl).trans ?_
    rw [L_zero]
    exact maskC_ideal

/-- A shift along the rows, of weights. -/
theorem shiftR_apply {d e : ℕ} (hs : S16x1.Slices ![0, 0] ⟨2, ![e, 1]⟩) (hc : Shape.Concatenates [⟨2, ![d, 1]⟩, ⟨2, ![e, 1]⟩] S16x1 0)
    (hde : d + e = 16) (x : FVec Ideal S16x1 .f32) (u : ℕ → ℝ≥0) (hx : ∀ r : Fin 16, x (ix2 r 0) = L (u r)) (r : Fin 16) :
    shiftR hs hc x (ix2 r 0) = L (if d ≤ r.val then u (r.val - d) else 0) := by
  unfold shiftR
  split
  · rename_i h
    have hr : r = ⟨(⟨r.val - d, by omega⟩ : Fin e).val + d, by show r.val - d + d < 16; omega⟩ := Fin.ext (by show r.val = r.val - d + d; omega)
    rw [← hx ⟨r.val - d, by omega⟩]
    refine (congrArg (fun r => concatenate S16x1 0 [⟨⟨2, ![d, 1]⟩, broadcast ⟨2, ![d, 1]⟩ (maskC (F := Ideal))⟩,
      ⟨⟨2, ![e, 1]⟩, extractStridedSlice ⟨2, ![e, 1]⟩ ![0, 0] x hs⟩] hc (ix2 r 0)) hr).trans ?_
    refine (Layout.stack_hi _ _ hc ⟨r.val - d, by omega⟩ (by show r.val - d + d < 16; omega) 0).trans ?_
    refine congrArg x ?_
    funext a
    refine Fin.ext ?_
    match a with
    | ⟨0, _⟩ => exact Nat.zero_add _
    | ⟨1, _⟩ => exact Nat.zero_add _
  · rename_i h
    refine (Layout.stack_lo _ _ hc ⟨r.val, by omega⟩ r.isLt 0).trans ?_
    rw [L_zero]
    exact maskC_ideal

/-- A chain of maxima at an index. -/
theorem max_at {S : Shape} (xs : List (FVec Ideal S .f32)) (x : FVec Ideal S .f32) (i : S.Idx) :
    (xs.foldl (fun a y => maximumf a y) x) i = (xs.map fun y => y i).foldl max (x i) := by
  induction xs generalizing x with
  | nil => rfl
  | cons y xs ih => exact ih (maximumf x y)

/-- A chain of sums of exponentials at an index. -/
theorem sum_at {S : Shape} (xs : List (FVec Ideal S .f32)) (m x : FVec Ideal S .f32) (i : S.Idx) :
    (xs.foldl (fun a y => addf a (exp (subf y m))) x) i = (xs.map fun y => y i).foldl (fun a y => a + Ideal.exp (y - m i)) (x i) := by
  induction xs generalizing x with
  | nil => rfl
  | cons y xs ih => exact ih (addf x (exp (subf y m)))

/-- The log-sum over a list, of weights. -/
theorem lseMany_apply {S : Shape} {x : FVec Ideal S .f32} {xs : List (FVec Ideal S .f32)} {i : S.Idx} {u : ℝ≥0} {us : List ℝ≥0}
    (hx : x i = L u) (hxs : List.Forall₂ (fun y v => y i = L v) xs us) : lseMany x xs i = L (u + us.sum) := by
  have hm : (xs.map fun y => y i) = us.map L := by
    induction hxs with
    | nil => rfl
    | cons h _ ih => rw [List.map_cons, List.map_cons, h, ih]
  rw [← lseList, ← hm, ← hx]
  show (xs.foldl (fun a y => maximumf a y) x) i + Ideal.log ((xs.foldl (fun a y => addf a (exp (subf y (xs.foldl (fun a y => maximumf a y) x))))
    (exp (subf x (xs.foldl (fun a y => maximumf a y) x)))) i) = _
  rw [sum_at, max_at]
  show _ + Ideal.log (List.foldl _ (Ideal.exp (x i - (xs.foldl (fun a y => maximumf a y) x) i)) _) = _
  rw [max_at]

/-- The log-sum of two, of weights. -/
theorem plse_apply {S : Shape} {a b : FVec Ideal S .f32} {i : S.Idx} {u v : ℝ≥0} (ha : a i = L u) (hb : b i = L v) : plse a b i = L (u + v) := by
  rw [← plse_L, ← ha, ← hb, ← Ideal.ofBits_zero_f32]
  rfl

/-- Sixteen terms. -/
theorem sum_sixteen (f : ℕ → ℝ≥0) : f 0 + [f 1, f 2, f 3, f 4, f 5, f 6, f 7, f 8, f 9, f 10, f 11, f 12, f 13, f 14, f 15].sum = ∑ d ∈ Finset.range 16, f d := by
  simp only [Finset.sum_range_succ, Finset.sum_range_zero, List.sum_cons, List.sum_nil]
  abel

/-- Fifteen terms. -/
theorem sum_fifteen (f : ℕ → ℝ≥0) : f 0 + [f 1, f 2, f 3, f 4, f 5, f 6, f 7, f 8, f 9, f 10, f 11, f 12, f 13, f 14].sum = ∑ d ∈ Finset.range 15, f d := by
  simp only [Finset.sum_range_succ, Finset.sum_range_zero, List.sum_cons, List.sum_nil]
  abel

/-- Eight terms. -/
theorem sum_eight (f : ℕ → ℝ≥0) : f 0 + [f 1, f 2, f 3, f 4, f 5, f 6, f 7].sum = ∑ d ∈ Finset.range 8, f d := by
  simp only [Finset.sum_range_succ, Finset.sum_range_zero, List.sum_cons, List.sum_nil]
  abel

/-- The sum of the `N` places up to `c`. -/
def back (u : ℕ → ℝ≥0) (N c : ℕ) : ℝ≥0 := ∑ d ∈ Finset.range N, if d ≤ c then u (c - d) else 0

/-- Blocks of sixteen make up the whole. -/
theorem back_blocks (u : ℕ → ℝ≥0) (c B : ℕ) :
    (∑ b ∈ Finset.range B, if 16 * b ≤ c then back u 16 (c - 16 * b) else 0) = back u (16 * B) c := by
  induction B with
  | zero => rfl
  | succ B ih =>
    rw [Finset.sum_range_succ, ih, show 16 * (B + 1) = 16 * B + 16 from rfl, back, back, back, Finset.sum_range_add]
    congr 1
    split
    · rename_i h
      refine Finset.sum_congr rfl fun d _ => ?_
      rw [show c - 16 * B - d = c - (16 * B + d) by omega]
      exact if_congr (by omega) rfl rfl
    · rename_i h
      refine (Finset.sum_eq_zero fun d _ => if_neg (by omega)).symm

/-- Enough places make up the prefix. -/
theorem back_all (u : ℕ → ℝ≥0) {N c : ℕ} (h : c < N) : back u N c = ∑ k ∈ Finset.range (c + 1), u k := by
  rw [← Finset.sum_range_reflect, back, ← Finset.sum_filter]
  refine Finset.sum_congr (Finset.ext fun k => ?_) fun d _ => congrArg u (by omega)
  simp only [Finset.mem_filter, Finset.mem_range]
  omega

/-- The sum of the places strictly before `r`. -/
theorem before_all (u : ℕ → ℝ≥0) (r : ℕ) (hr : r < 16) :
    (∑ d ∈ Finset.range 15, if d + 1 ≤ r then u (r - (d + 1)) else 0) = ∑ k ∈ Finset.range r, u k := by
  rw [← Finset.sum_range_reflect u r, ← Finset.sum_filter]
  refine Finset.sum_congr (Finset.ext fun k => ?_) fun d _ => congrArg u (by omega)
  simp only [Finset.mem_filter, Finset.mem_range]
  omega

/-- The sums over sixteen neighbours. -/
theorem lane1_apply (x : FVec Ideal S16x128 .f32) (u : ℕ → ℝ≥0) (r : Fin 16) (hx : ∀ c : Fin 128, x (ix2 r c) = L (u c)) (c : Fin 128) :
    lane1 x (ix2 r c) = L (back u 16 c) := by
  rw [back, ← sum_sixteen]
  refine lseMany_apply (hx c) ?_
  exact .cons (shiftC_apply (d := 1) (e := 127) _ _ rfl x u r hx c) (.cons (shiftC_apply (d := 2) (e := 126) _ _ rfl x u r hx c) (.cons (shiftC_apply (d := 3) (e := 125) _ _ rfl x u r hx c) (.cons (shiftC_apply (d := 4) (e := 124) _ _ rfl x u r hx c) (.cons (shiftC_apply (d := 5) (e := 123) _ _ rfl x u r hx c) (.cons (shiftC_apply (d := 6) (e := 122) _ _ rfl x u r hx c) (.cons (shiftC_apply (d := 7) (e := 121) _ _ rfl x u r hx c) (.cons (shiftC_apply (d := 8) (e := 120) _ _ rfl x u r hx c) (.cons (shiftC_apply (d := 9) (e := 119) _ _ rfl x u r hx c) (.cons (shiftC_apply (d := 10) (e := 118) _ _ rfl x u r hx c) (.cons (shiftC_apply (d := 11) (e := 117) _ _ rfl x u r hx c) (.cons (shiftC_apply (d := 12) (e := 116) _ _ rfl x u r hx c) (.cons (shiftC_apply (d := 13) (e := 115) _ _ rfl x u r hx c) (.cons (shiftC_apply (d := 14) (e := 114) _ _ rfl x u r hx c) (.cons (shiftC_apply (d := 15) (e := 113) _ _ rfl x u r hx c) (.nil)))))))))))))))

/-- The sums over eight blocks. -/
theorem lane2_apply (x : FVec Ideal S16x128 .f32) (u : ℕ → ℝ≥0) (r : Fin 16) (hx : ∀ c : Fin 128, x (ix2 r c) = L (u c)) (c : Fin 128) :
    lane2 x (ix2 r c) = L (∑ b ∈ Finset.range 8, if 16 * b ≤ c.val then u (c - 16 * b) else 0) := by
  rw [← sum_eight]
  refine lseMany_apply (hx c) ?_
  exact .cons (shiftC_apply (d := 16) (e := 112) _ _ rfl x u r hx c) (.cons (shiftC_apply (d := 32) (e := 96) _ _ rfl x u r hx c) (.cons (shiftC_apply (d := 48) (e := 80) _ _ rfl x u r hx c) (.cons (shiftC_apply (d := 64) (e := 64) _ _ rfl x u r hx c) (.cons (shiftC_apply (d := 80) (e := 48) _ _ rfl x u r hx c) (.cons (shiftC_apply (d := 96) (e := 32) _ _ rfl x u r hx c) (.cons (shiftC_apply (d := 112) (e := 16) _ _ rfl x u r hx c) (.nil)))))))

/-- The prefix sums of a row. -/
theorem row_prefix (x : FVec Ideal S16x128 .f32) (u : ℕ → ℝ≥0) (r : Fin 16) (hx : ∀ c : Fin 128, x (ix2 r c) = L (u c)) (c : Fin 128) :
    lane2 (lane1 x) (ix2 r c) = L (∑ k ∈ Finset.range (c.val + 1), u k) := by
  rw [lane2_apply _ (back u 16) r (lane1_apply x u r hx) c, back_blocks, back_all u c.isLt]

/-- The sums over the rows above. -/
theorem carry_apply (x : FVec Ideal S16x1 .f32) (u : ℕ → ℝ≥0) (hx : ∀ r : Fin 16, x (ix2 r 0) = L (u r)) (r : Fin 16) :
    carry x (ix2 r 0) = L (∑ k ∈ Finset.range r.val, u k) := by
  rw [← before_all u r r.isLt, ← sum_fifteen]
  refine lseMany_apply (shiftR_apply (d := 1) (e := 15) _ _ rfl x u hx r) ?_
  exact .cons (shiftR_apply (d := 2) (e := 14) _ _ rfl x u hx r) (.cons (shiftR_apply (d := 3) (e := 13) _ _ rfl x u hx r) (.cons (shiftR_apply (d := 4) (e := 12) _ _ rfl x u hx r) (.cons (shiftR_apply (d := 5) (e := 11) _ _ rfl x u hx r) (.cons (shiftR_apply (d := 6) (e := 10) _ _ rfl x u hx r) (.cons (shiftR_apply (d := 7) (e := 9) _ _ rfl x u hx r) (.cons (shiftR_apply (d := 8) (e := 8) _ _ rfl x u hx r) (.cons (shiftR_apply (d := 9) (e := 7) _ _ rfl x u hx r) (.cons (shiftR_apply (d := 10) (e := 6) _ _ rfl x u hx r) (.cons (shiftR_apply (d := 11) (e := 5) _ _ rfl x u hx r) (.cons (shiftR_apply (d := 12) (e := 4) _ _ rfl x u hx r) (.cons (shiftR_apply (d := 13) (e := 3) _ _ rfl x u hx r) (.cons (shiftR_apply (d := 14) (e := 2) _ _ rfl x u hx r) (.cons (shiftR_apply (d := 15) (e := 1) _ _ rfl x u hx r) (.nil))))))))))))))

/-- The row totals, from the prefix sums. -/
theorem col127_apply (x : FVec Ideal S16x128 .f32) (r : Fin 16) : col127 x (ix2 r 0) = x (ix2 r 127) := by
  pointwise [col127]

/-- Whole rows add up to a prefix. -/
theorem row_blocks (w : ℕ → ℝ≥0) (r : ℕ) : (∑ a ∈ Finset.range r, ∑ k ∈ Finset.range 128, w (128 * a + k)) = ∑ k ∈ Finset.range (128 * r), w k := by
  induction r with
  | zero => rfl
  | succ r ih => rw [Finset.sum_range_succ, ih, show 128 * (r + 1) = 128 * r + 128 from rfl, Finset.sum_range_add]

/-- The prefix sums of all places, from those of each row. -/
theorem dpCum_apply (z : FVec Ideal S16x128 .f32) (w : ℕ → ℝ≥0)
    (hz : ∀ (r : Fin 16) (c : Fin 128), z (ix2 r c) = L (∑ k ∈ Finset.range (c.val + 1), w (128 * r.val + k))) (r : Fin 16) (c : Fin 128) :
    dpCum z (ix2 r c) = L (∑ k ∈ Finset.range (128 * r.val + c.val + 1), w k) := by
  have hb : broadcastTo S16x128 (carry (col127 z)) broadcasts_S16x1_S16x128 (ix2 r c) = carry (col127 z) (ix2 r 0) := by
    pointwise
  rw [carry_apply (col127 z) (fun a => ∑ k ∈ Finset.range 128, w (128 * a + k)) (fun a => (col127_apply z a).trans (hz a 127)) r, row_blocks] at hb
  unfold dpCum
  rw [plse_apply (hz r c) hb, add_comm, Nat.add_assoc, Finset.sum_range_add w (128 * r.val)]

/-- The prefix sums before each place. -/
theorem dpShift_apply (z : FVec Ideal S16x128 .f32) (w : ℕ → ℝ≥0)
    (hz : ∀ (r : Fin 16) (c : Fin 128), z (ix2 r c) = L (∑ k ∈ Finset.range (128 * r.val + c.val + 1), w k)) (r : Fin 16) (c : Fin 128) :
    dpShift z (ix2 r c) = L (∑ k ∈ Finset.range (128 * r.val + c.val), w k) := by
  unfold dpShift
  rcases Nat.eq_zero_or_pos c.val with h | h
  · refine (Layout.beside_lo (n := 1) (m := 127) _ _ concatenates_S16x1_S16x127_S16x128_d1 r 0 c h).trans ?_
    refine (shiftR_apply (d := 1) (e := 15) _ _ rfl (col127 z) (fun a => ∑ k ∈ Finset.range (128 * a + 127 + 1), w k)
      (fun a => (col127_apply z a).trans (hz a 127)) r).trans ?_
    rw [h]
    refine congrArg L ?_
    split
    · rename_i h1
      show Finset.sum (Finset.range (128 * (r.val - 1) + 127 + 1)) w = _
      rw [show 128 * (r.val - 1) + 127 + 1 = 128 * r.val + 0 by omega]
    · rename_i h1
      rw [show 128 * r.val + 0 = 0 by omega]; rfl
  · refine (Layout.beside_hi (n := 1) (m := 127) _ _ concatenates_S16x1_S16x127_S16x128_d1 r ⟨c.val - 1, by omega⟩ c (by show c.val = c.val - 1 + 1; omega)).trans ?_
    refine Eq.trans (congrArg z ?_) ((hz r ⟨c.val - 1, by omega⟩).trans ?_)
    · funext a
      refine Fin.ext ?_
      match a with
      | ⟨0, _⟩ => exact Nat.zero_add _
      | ⟨1, _⟩ => exact Nat.zero_add _
    · show L (Finset.sum (Finset.range (128 * r.val + (c.val - 1) + 1)) w) = _
      rw [show 128 * r.val + (c.val - 1) + 1 = 128 * r.val + c.val by omega]

/-- A place's weight times the two factors of its step. -/
theorem pay6_apply (s : ℝ) (row : FVec Ideal S1x16x128 .f32) (p : FVec Ideal S16x128 .f32) (u : ℝ≥0) (e : ℝ) (r : Fin 16) (c : Fin 128)
    (hrow : row (ix3 0 r c) = ((e : ℝ) : EReal)) (hp : p (ix2 r c) = L u) :
    k1_pay6 (F := Ideal) ((s : ℝ) : EReal) row p (ix2 r c) = L (u * (E (-s) + E (-(e * s)))) := by
  rw [← L_add_L (add_pos (E_pos _) (E_pos _)), ← step_weight, ← hp, EReal.coe_mul, ← hrow, ← Ideal.ofBits_zero_f32]
  pointwise [k1_pay6]
  rfl

/-- A place's weight times the skip factor. -/
theorem pay69_apply (s : ℝ) (p : FVec Ideal S16x128 .f32) (u : ℝ≥0) (i : S16x128.Idx) (hp : p i = L u) :
    k1_pay69 (F := Ideal) ((s : ℝ) : EReal) p i = L (u * E (-s)) := by
  rw [← L_sub_coe, ← hp]
  rfl

/-- The prefix sums of a trip. -/
theorem dpAll_apply (s : ℝ) (row : FVec Ideal S1x16x128 .f32) (p : FVec Ideal S16x128 .f32) (u : ℕ → ℝ≥0) (e : ℕ → ℝ)
    (hrow : ∀ (r : Fin 16) (c : Fin 128), row (ix3 0 r c) = ((e (128 * r.val + c.val) : ℝ) : EReal))
    (hp : ∀ (r : Fin 16) (c : Fin 128), p (ix2 r c) = L (u (128 * r.val + c.val))) (r : Fin 16) (c : Fin 128) :
    dpAll (F := Ideal) ((s : ℝ) : EReal) row p (ix2 r c) = L (∑ k ∈ Finset.range (128 * r.val + c.val + 1), u k * (E (-s) + E (-(e k * s)))) :=
  dpCum_apply _ (fun k => u k * (E (-s) + E (-(e k * s)))) (fun r c =>
    row_prefix _ (fun k => u (128 * r.val + k) * (E (-s) + E (-(e (128 * r.val + k) * s)))) r (fun c => pay6_apply s row p _ _ r c (hrow r c) (hp r c)) c) r c

/-- The weights a trip leaves. -/
theorem dpP_apply (s : ℝ) (row : FVec Ideal S1x16x128 .f32) (p : FVec Ideal S16x128 .f32) (u : ℕ → ℝ≥0) (e : ℕ → ℝ)
    (hrow : ∀ (r : Fin 16) (c : Fin 128), row (ix3 0 r c) = ((e (128 * r.val + c.val) : ℝ) : EReal))
    (hp : ∀ (r : Fin 16) (c : Fin 128), p (ix2 r c) = L (u (128 * r.val + c.val))) (r : Fin 16) (c : Fin 128) :
    dpP (F := Ideal) ((s : ℝ) : EReal) row p (ix2 r c)
      = L ((∑ k ∈ Finset.range (128 * r.val + c.val), u k * (E (-s) + E (-(e k * s)))) + u (128 * r.val + c.val) * E (-s)) := by
  unfold dpP
  refine Eq.trans (show shapeCast S16x128 (plse (dpShift (dpAll ((s : ℝ) : EReal) row p)) (k1_pay69 ((s : ℝ) : EReal) p)) shapeCasts_S16x128_S16x128 (ix2 r c)
    = plse (dpShift (dpAll ((s : ℝ) : EReal) row p)) (k1_pay69 ((s : ℝ) : EReal) p) (ix2 r c) by pointwise) ?_
  exact plse_apply (dpShift_apply _ _ (dpAll_apply s row p u e hrow hp) r c) (pay69_apply s p _ _ (hp r c))

/-- The last weight a trip leaves. -/
theorem dpLast_apply (s : ℝ) (row : FVec Ideal S1x16x128 .f32) (p : FVec Ideal S16x128 .f32) (pl : FVec Ideal S1x1 .f32) (u : ℕ → ℝ≥0) (e : ℕ → ℝ)
    (hrow : ∀ (r : Fin 16) (c : Fin 128), row (ix3 0 r c) = ((e (128 * r.val + c.val) : ℝ) : EReal))
    (hp : ∀ (r : Fin 16) (c : Fin 128), p (ix2 r c) = L (u (128 * r.val + c.val))) (hl : pl (ix2 0 0) = L (u 2048)) :
    dpLast (F := Ideal) ((s : ℝ) : EReal) row p pl (ix2 0 0)
      = L ((∑ k ∈ Finset.range 2048, u k * (E (-s) + E (-(e k * s)))) + u 2048 * E (-s)) := by
  have ha := dpAll_apply s row p u e hrow hp 15 127
  rw [← plse_L, ← L_sub_coe, ← hl, ← Ideal.ofBits_zero_f32]
  unfold dpLast
  rw [show (128 * (15 : Fin 16).val + (127 : Fin 128).val + 1) = 2048 from rfl] at ha
  rw [← ha]
  generalize dpAll (F := Ideal) ((s : ℝ) : EReal) row p = z
  pointwise [k1_pay4]
  rfl

end Cert.KernelIdeal.Val

end
-- ==== Proof.DpFold.lean ====
module

public import proofs.«01_k».proof.Proof.Region1
public import proofs.«01_k».proof.Proof.DpVal
public import Idealize.ShloMosaic.Lib.Pipeline.ValueKit

@[expose] public section

noncomputable section

/-! # The second launch's buffers, in weights

    Before step `i` the two buffers carried hold the logarithms of the weights `U i`. -/

namespace Cert.KernelIdeal.Val

open Idealize.ShloMosaic Idealize.ShloMosaic.TcCoe
open Cert.KernelIdeal Cert.KernelIdeal.Gen Cert.KernelIdeal.Hand Cert.Weights
open scoped NNReal

/-- The two buffers hold the logarithms of the weights `u`. -/
def Holds (u : ℕ → ℝ≥0) (s : Vec Ideal S16x128 .f32 × Vec Ideal S1x1 .f32) : Prop :=
  (∀ (r : Fin 16) (c : Fin 128), s.1 (ix2 r c) = L (u (128 * r.val + c.val))) ∧ s.2 (ix2 0 0) = L (u 2048)

/-- The loop runs 256 times. -/
theorem trips_eq : k1_t1_loop.trips = 256 := by decide +kernel

/-- The buffers start at weight one. -/
theorem start_holds (q : ℕ → ℝ≥0) (r : ℕ → ℕ → ℝ≥0) : Holds (U q r 0) (dpStart (F := Ideal)) := by
  constructor
  · intro a c
    show _ = L 1
    rw [L_one, ← Ideal.ofBits_zero_f32]
    rfl
  · show _ = L 1
    rw [L_one, ← Ideal.ofBits_zero_f32]
    rfl

variable {A B : Arr} {i0 : ℕ} {x0 : Vec Ideal S256x16x128 .f32} {x1 : Vec Ideal S256x1 .f32}

/-- One trip takes the weights of a step to those of the next. -/
theorem trip_holds (h0 : ∀ (k : Fin 256) (r : Fin 16) (c : Fin 128), x0 (ix3 k r c) = ((ex A B (i0 + k.val) (128 * r.val + c.val) : ℝ) : EReal))
    (h1 : ∀ k : Fin 256, x1 (ix2 k 0) = ((su A B (i0 + k.val) : ℝ) : EReal)) (k : Fin k1_t1_loop.trips)
    {s : Vec Ideal S16x128 .f32 × Vec Ideal S1x1 .f32} (hs : Holds (U (q A B) (r A B) (i0 + k.val)) s) :
    Holds (U (q A B) (r A B) (i0 + k.val + 1)) (dpTrip x0 x1 k s) := by
  have hk : k.val < 256 := Nat.lt_of_lt_of_le k.isLt k1_t1_abs.2.1
  obtain ⟨p, pl⟩ := s
  have hW : View.ld x1 (Rect.unit (s := S256x1) (k1_off1 k) S1x1.size (k1_off1_inb k)) (Shape.Idx.first (show 0 < S1x1.numel by decide))
      = ((su A B (i0 + k.val) : ℝ) : EReal) := by
    refine (View.ld_unit_apply_of _ _ _ _ _ (ix2 ⟨k.val, hk⟩ 0) fun a => ?_).trans (h1 ⟨k.val, hk⟩)
    refine Eq.trans ?_ (congrArg (· + _) (congrFun (k1_off1_eq k) a).symm)
    match a with
    | ⟨0, _⟩ => rfl
    | ⟨1, _⟩ => rfl
  have hR : ∀ (r : Fin 16) (c : Fin 128), View.ld x0 (Rect.unit (s := S256x16x128) (k1_off2 k) S1x16x128.size (k1_off2_inb k)) (ix3 0 r c)
      = ((ex A B (i0 + k.val) (128 * r.val + c.val) : ℝ) : EReal) := by
    intro r c
    refine (View.ld_unit_apply_of _ _ _ _ _ (ix3 ⟨k.val, hk⟩ r c) fun a => ?_).trans (h0 ⟨k.val, hk⟩ r c)
    refine Eq.trans ?_ (congrArg (· + _) (congrFun (k1_off2_eq k) a).symm)
    match a with
    | ⟨0, _⟩ => rfl
    | ⟨1, _⟩ => exact (Nat.zero_add _).symm
    | ⟨2, _⟩ => exact (Nat.zero_add _).symm
  constructor
  · intro r c
    rw [dpTrip_fst, hW]
    exact dpP_apply (su A B (i0 + k.val)) _ p (U (q A B) (Weights.r A B) (i0 + k.val)) (ex A B (i0 + k.val)) hR hs.1 r c
  · rw [dpTrip_snd, hW]
    exact dpLast_apply (su A B (i0 + k.val)) _ p pl (U (q A B) (Weights.r A B) (i0 + k.val)) (ex A B (i0 + k.val)) hR hs.1 hs.2

/-- The trips of one block. -/
theorem iter_holds (h0 : ∀ (k : Fin 256) (r : Fin 16) (c : Fin 128), x0 (ix3 k r c) = ((ex A B (i0 + k.val) (128 * r.val + c.val) : ℝ) : EReal))
    (h1 : ∀ k : Fin 256, x1 (ix2 k 0) = ((su A B (i0 + k.val) : ℝ) : EReal))
    {s : Vec Ideal S16x128 .f32 × Vec Ideal S1x1 .f32} (hs : Holds (U (q A B) (r A B) i0) s) (n : ℕ) (hn : n ≤ k1_t1_loop.trips) :
    Holds (U (q A B) (r A B) (i0 + n)) (dpIter x0 x1 s n) := by
  induction n with
  | zero => exact hs
  | succ n ih =>
    rw [dpIter_succ x0 x1 s ⟨n, hn⟩]
    exact trip_holds h0 h1 ⟨n, hn⟩ (ih (by omega))

variable (V : (c : Dev nD) → (b : Ref sig .tc) → Buf (Elt Ideal) ((c : Thread nD τ).loc b))

/-- The buffers before each point. -/
theorem buf_holds (c : Dev nD)
    (hE : ∀ (i : Fin 2048) (r : Fin 16) (k : Fin 128), (V c main_v22_0 : S2048x16x128.Idx → EReal) (ix3 i r k) = ((ex A B i.val (128 * r.val + k.val) : ℝ) : EReal))
    (hS : ∀ i : Fin 2048, (V c main_v22_1 : S2048x1.Idx → EReal) (ix2 i 0) = ((su A B i.val : ℝ) : EReal)) (n : ℕ) (hn : n ≤ 8) :
    Holds (U (q A B) (r A B) (256 * n)) (dpBuf V c n) := by
  induction n with
  | zero => exact start_holds _ _
  | succ n ih =>
    have e0 : ∀ t : Fin cfg1.N, win1_0.index t = ![t.val, 0, 0] := (by decide +kernel : ∀ t : Fin cfg1.N, win1_0.index t = ![t.val, 0, 0])
    have e1 : ∀ t : Fin cfg1.N, win1_1.index t = ![t.val, 0] := (by decide +kernel : ∀ t : Fin cfg1.N, win1_1.index t = ![t.val, 0])
    have hlt : n < cfg1.N := by show n < 8; omega
    rw [dpBuf_succ V c ⟨n, hlt⟩]
    have h := iter_holds (A := A) (B := B) (i0 := 256 * n) (x0 := iblk1 V c 0 ⟨n, hlt⟩) (x1 := iblk1 V c 1 ⟨n, hlt⟩) ?_ ?_ (ih (by omega)) k1_t1_loop.trips le_rfl
    · rw [trips_eq] at h
      exact h
    · intro k r d
      rw [← hE ⟨256 * n + k.val, by omega⟩ r d]
      refine congrArg (V c main_v22_0) ?_
      blk_ext [e0]
    · intro k
      rw [← hS ⟨256 * n + k.val, by omega⟩]
      refine congrArg (V c main_v22_1) ?_
      blk_ext [e1]

end Cert.KernelIdeal.Val

end
-- ==== Proof.Arrays.lean ====
module

public import proofs.«01_k».proof.Proof.CostVal
public import proofs.«01_k».proof.Proof.DpFold
public import Idealize.ShloMosaic.Lib.Pipeline.ValueKit

@[expose] public section

noncomputable section

/-! # The arrays the two launches leave -/

namespace Cert.KernelIdeal.Val

open Idealize.ShloMosaic Idealize.ShloMosaic.TcCoe
open Cert.KernelIdeal Cert.KernelIdeal.Gen Cert.KernelIdeal.Hand Cert.Weights

variable {A B : Arr} (V : (c : Dev nD) → (b : Ref sig .tc) → Buf (Elt Ideal) ((c : Thread nD τ).loc b)) (c : Dev nD)

/-- The first array is read by row blocks. -/
theorem index0_0 : ∀ t : Fin cfg0.N, win0_0.index t = ![t.val, 0] := by decide +kernel
/-- The second array is read whole at every point. -/
theorem index0_1 : ∀ t : Fin cfg0.N, win0_1.index t = ![0, 0] := by decide +kernel
/-- The exponentials are written by row blocks. -/
theorem index0_2 : ∀ t : Fin cfg0.N, win0_2.index t = ![t.val, 0, 0] := by decide +kernel
/-- The scales are written by row blocks. -/
theorem index0_3 : ∀ t : Fin cfg0.N, win0_3.index t = ![t.val, 0] := by decide +kernel

section
variable (hA : ∀ (i : Fin 2048) (k : Fin 512), (V c main_v10 : S2048x512.Idx → EReal) (ix2 i k) = A i k)
  (hB : ∀ (i : Fin 2048) (k : Fin 512), (V c main_v21 : S2048x512.Idx → EReal) (ix2 i k) = B i k)
include hA in
/-- A point's rows of the first array. -/
theorem block_A (t : Fin cfg0.N) (i : Fin 256) (k : Fin 512) (h : 256 * t.val + i.val < 2048) :
    (iblk0 V c 0 t : S256x512.Idx → EReal) (ix2 i k) = A ⟨256 * t.val + i.val, h⟩ k := by
  rw [← hA ⟨256 * t.val + i.val, h⟩ k]
  refine congrArg (V c main_v10) ?_
  blk_ext [index0_0]
include hB in
/-- The second array, whole at every point. -/
theorem block_B (t : Fin cfg0.N) (i : Fin 2048) (k : Fin 512) :
    (iblk0 V c 1 t : S2048x512.Idx → EReal) (ix2 i k) = B i k := by
  rw [← hB i k]
  refine congrArg (V c main_v21) ?_
  blk_ext [index0_1]

include hA hB in
/-- After the first launch its first result holds the exponentials. -/
theorem final0_2 : (dat0 V c).arrAt 2 cfg0.N
    = fun i : S2048x16x128.Idx => ((ex A B (i 0).val (128 * (i 1).val + (i 2).val) : ℝ) : EReal) := by
  refine (dat0 V c).arrAt_eq_of_covers 2 _ (by decide +kernel) fun t hf y => ?_
  blk_simp
  rw [after0_2]
  have ht : t.val < 8 := t.isLt
  have h := (out2_apply (iblk0 V c 0 t) (iblk0 V c 1 t) (y 0) (y 1) (y 2)).trans
    (exp_apply (A := A) (B := B) ht (fun i k => block_A V c hA t i k _) (fun i k => block_B V c hB t i k) (y 0) ⟨128 * (y 1).val + (y 2).val, by
      have h1 : (y 1).val < 16 := (y 1).isLt
      have h2 : (y 2).val < 128 := (y 2).isLt
      omega⟩)
  have hy : (ix3 (y 0) (y 1) (y 2) : S256x16x128.Idx) = y := (eq_ix3 (y : S256x16x128.Idx)).symm
  rw [hy] at h
  refine h.trans ?_
  rw [index0_2 t]
  show ((ex A B (256 * t.val + (y 0).val) (128 * (y 1).val + (y 2).val) : ℝ) : EReal)
    = ((ex A B (t.val * 256 + (y 0).val) (128 * (0 * 16 + (y 1).val) + (0 * 128 + (y 2).val)) : ℝ) : EReal)
  rw [Nat.mul_comm 256 t.val, Nat.zero_mul, Nat.zero_add, Nat.zero_add]

include hA hB in
/-- After the first launch its second result holds the scales. -/
theorem final0_3 : (dat0 V c).arrAt 3 cfg0.N = fun i : S2048x1.Idx => ((su A B (i 0).val : ℝ) : EReal) := by
  refine (dat0 V c).arrAt_eq_of_covers 3 _ (by decide +kernel) fun t hf y => ?_
  blk_simp
  rw [after0_3]
  have ht : t.val < 8 := t.isLt
  have h := out3_apply (A := A) (B := B) (x0 := iblk0 V c 0 t) (x1 := iblk0 V c 1 t) ht (fun i k => block_A V c hA t i k _) (fun i k => block_B V c hB t i k) (y 0)
  have hy : (ix2 (y 0) 0 : S256x1.Idx) = y := by
    refine Eq.trans ?_ (eq_ix2 (y : S256x1.Idx)).symm
    exact congrArg (ix2 (y 0)) (Subsingleton.elim (α := Fin 1) _ _)
  rw [hy] at h
  refine h.trans ?_
  rw [index0_3 t]
  show ((su A B (256 * t.val + (y 0).val) : ℝ) : EReal) = ((su A B (t.val * 256 + (y 0).val) : ℝ) : EReal)
  rw [Nat.mul_comm 256 t.val]
end

/-- The scaling that ends the second launch. -/
theorem pay5_apply (s : Vec Ideal S1x1 .f32) (v : EReal) (h : s (ix2 0 0) = v) (x : S1x1.Idx) :
    k1_pay5 (F := Ideal) s x = ((-1 / 1000 : ℝ) : EReal) * v := by
  obtain rfl : x = ix2 0 0 := by
    refine (eq_ix2 x).trans ?_
    exact congrArg₂ ix2 (Subsingleton.elim (α := Fin 1) _ _) (Subsingleton.elim (α := Fin 1) _ _)
  have e : k1_pay5 (F := Ideal) s (ix2 0 0) = (Named.named κ "neg_gamma" 0xBA83126F#32 : Ideal .f32) * s (ix2 0 0) := rfl
  rw [e, h, IdealRules.named_const.ideal_named_scalar _ _ _ _ rfl]

/-- What the last buffers scale to. -/
theorem pay5_answer (s : Vec Ideal S1x1 .f32) (n : ℕ) (hn : n = 2048) (h : s (ix2 0 0) = L (U (q A B) (r A B) n 2048)) (x : S1x1.Idx) :
    k1_pay5 (F := Ideal) s x = answer A B := by
  subst hn
  rw [answer]
  exact pay5_apply s _ h x

/-- After the second launch its result holds the loss. -/
theorem final1_2
    (hE : ∀ (i : Fin 2048) (r : Fin 16) (k : Fin 128), (V c main_v22_0 : S2048x16x128.Idx → EReal) (ix3 i r k) = ((ex A B i.val (128 * r.val + k.val) : ℝ) : EReal))
    (hS : ∀ i : Fin 2048, (V c main_v22_1 : S2048x1.Idx → EReal) (ix2 i 0) = ((su A B i.val : ℝ) : EReal)) :
    (dat1 V c).arrAt 2 cfg1.N = fun _ : S1x1.Idx => answer A B := by
  refine (dat1 V c).arrAt_eq_of_after_last 2 ⟨7, by decide⟩ (by decide +kernel) _ fun j => ?_
  rw [after1_2]
  exact pay5_answer _ (256 * 8) rfl (buf_holds (A := A) (B := B) V c hE hS 8 le_rfl).2 _

end Cert.KernelIdeal.Val

end
-- ==== Proof.KernelRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Region0
public import proofs.«01_k».proof.Proof.Region1
public import proofs.«01_k».proof.Proof.Gen.KernelIdeal.Regions
public import Idealize.ShloMosaic.Lib.Pipeline.Value
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen hiding V0 V1 V2 V3 V4 V5 V6 V7 V8
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run of the whole program: five host stretches, two launches, one reshape -/

/-- The program's argument arrays. -/
abbrev argRefs : List (Ref sig .tc) := [main_arg0, main_arg1]

/-- Core `c`'s buffers at the launch. -/
abbrev W0 : Dev nD → Valuation τ sig (Elt F) := fun c b => (s₀ m ρ).mem ((c : Dev nD), b)
/-- The buffers after the host stretch `hostOps0`. -/
def W1 (c : Dev nD) : Valuation τ sig (Elt F) := StableHlo.after hostOps0 (W0 m ρ c)
/-- The buffers after the host stretch `hostOps0_1`. -/
def W2 (c : Dev nD) : Valuation τ sig (Elt F) := StableHlo.after hostOps0_1 (W1 m ρ c)
/-- The buffers after the host stretch `hostOps0_2`. -/
def W3 (c : Dev nD) : Valuation τ sig (Elt F) := StableHlo.after hostOps0_2 (W2 m ρ c)
/-- The buffers after the host stretch `hostOps0_3`. -/
def W4 (c : Dev nD) : Valuation τ sig (Elt F) := StableHlo.after hostOps0_3 (W3 m ρ c)
/-- The buffers after the host stretch `hostOps0_4`. -/
def W5 (c : Dev nD) : Valuation τ sig (Elt F) := StableHlo.after hostOps0_4 (W4 m ρ c)
/-- The contents the first launch is entered with, by reference. -/
abbrev V5 : (c : Dev nD) → (b : Ref sig .tc) → Buf (Elt F) ((c : Thread nD τ).loc b) := fun c b => W5 m ρ c b
/-- The buffers after the first launch: its two results as its points leave them, every other buffer as before. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- A buffer that is no result of the first launch keeps its contents over it. -/
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
/-- The contents after the first launch, by reference. -/
abbrev V6 : (c : Dev nD) → (b : Ref sig .tc) → Buf (Elt F) ((c : Thread nD τ).loc b) := fun c b => W6 m ρ c b
/-- After the first launch each of its arrays holds what its points leave, and every other buffer what it held before. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- The buffers after the second launch: its result as its points leave it, every other buffer as before. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- A buffer that is no result of the second launch keeps its contents over it. -/
theorem W7_of (c : Dev nD) (r : Ref sig .tc) (h : ∀ w : Fin cfg1.W, Pipeline.arrRef spec1 w = r → (cfg1.win w).isOut = false) :
    W7 m ρ c (Proc.devRef .tc r) = W6 m ρ c (Proc.devRef .tc r) := by
  by_cases hw : ∃ w : Fin cfg1.W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
/-- The contents after the second launch, by reference. -/
abbrev V7 : (c : Dev nD) → (b : Ref sig .tc) → Buf (Elt F) ((c : Thread nD τ).loc b) := fun c b => W7 m ρ c b
/-- After the second launch each of its arrays holds what its points leave, and every other buffer what it held before. -/
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- The buffers at the return. -/
def W8 (c : Dev nD) : Valuation τ sig (Elt F) := StableHlo.after hostOps2 (W7 m ρ c)

/-! ## The arguments end as launched -/

/-- An argument keeps its contents over the host stretches and the launches. -/
theorem W8_args (c : Dev nD) (a : Ref sig .tc) (ha : a ∈ argRefs) : W8 m ρ c (Proc.devRef .tc a) = m ((c : Thread nD τ).loc a) := by
  have hin0 : ∀ a ∈ argRefs, ∀ w : Fin cfg0.W, Pipeline.arrRef spec0 w = a → (cfg0.win w).isOut = false :=
    ListAll.forall_mem_of_all_decide (by decide +kernel)
  have hin1 : ∀ a ∈ argRefs, ∀ w : Fin cfg1.W, Pipeline.arrRef spec1 w = a → (cfg1.win w).isOut = false :=
    ListAll.forall_mem_of_all_decide (by decide +kernel)
  have n0 : ∀ a ∈ argRefs, a ∉ hostOps0_W := ListAll.forall_mem_of_all_decide (by decide +kernel)
  have n1 : ∀ a ∈ argRefs, a ∉ hostOps0_1_W := ListAll.forall_mem_of_all_decide (by decide +kernel)
  have n2 : ∀ a ∈ argRefs, a ∉ hostOps0_2_W := ListAll.forall_mem_of_all_decide (by decide +kernel)
  have n3 : ∀ a ∈ argRefs, a ∉ hostOps0_3_W := ListAll.forall_mem_of_all_decide (by decide +kernel)
  have n4 : ∀ a ∈ argRefs, a ∉ hostOps0_4_W := ListAll.forall_mem_of_all_decide (by decide +kernel)
  have n7 : ∀ a ∈ argRefs, a ∉ hostOps2_W := ListAll.forall_mem_of_all_decide (by decide +kernel)
  rw [W8, StableHlo.after_of_writes_sub hostOps2 _ hostOps2_writes (n7 a ha), W7_of m ρ c a (hin1 a ha), W6_of m ρ c a (hin0 a ha),
    W5, StableHlo.after_of_writes_sub hostOps0_4 _ hostOps0_4_writes (n4 a ha), W4, StableHlo.after_of_writes_sub hostOps0_3 _ hostOps0_3_writes (n3 a ha),
    W3, StableHlo.after_of_writes_sub hostOps0_2 _ hostOps0_2_writes (n2 a ha), W2, StableHlo.after_of_writes_sub hostOps0_1 _ hostOps0_1_writes (n1 a ha),
    W1, StableHlo.after_of_writes_sub hostOps0 _ hostOps0_writes (n0 a ha)]

/-! ## What is carried from step to step -/

/-- The prefetched tables' admissible contents: no pipeline has a table. -/
abbrev adm : (p : Fin 2) → (pcfgs (F := F) p).Adm := fun p => (cfgs p).toPCfg_adm
/-- The proof data of each launch, at the contents it is entered with. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What is carried beside the buffers: the core's generator register at some state, and that the core owes nothing. -/
abbrev R (c : Dev nD) : sProp 𝕄 := iprop((∃ r, prngReg c r) ∗ ∃ W, owes (c : Thread nD τ) (0 : CellTallies nD τ sig Unit) W)
/-- A host stretch from the contents `W`: it ends at those contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer of the whole program is among those carried. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What holds at the return: every buffer at `W8`, the generator register at some state. -/
abbrev Tₙ (c : Dev nD) : sProp 𝕄 := iprop(StableHlo.held (c : Thread nD τ) (Pipeline.ucRefs τ sig) (W8 m ρ c) ∗ ∃ r, prngReg c r)

/-! ## The launches as steps -/

set_option backward.isDefEq.respectTransparency.types false in
/-- The first launch as a step of the program: from the contents `W5` to the contents `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch as a step of the program: from the contents `W6` to the contents `W7`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) (A_eq1 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V6 m ρ) c).Φ 0 from rfl]
    iintro ⟨Hp, -, Hr⟩
    iapply (hin1 (V6 m ρ) c)
    unfold Pipeline.ΦA
    isplitl [Hr]; · iexact Hr
    iexact Hp
  hout c := by
    rw [Pipeline.ownSems0_none, show (pdats m ρ 1 c).Φ (Fin.last _) = (dat1 (V6 m ρ) c).Φ (Fin.last cfg1.N) from rfl]
    have h := hout1 (V6 m ρ) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its steps, and its run -/

/-- The program's eight steps in order: five host stretches, two launches, one reshape. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .host (hseg hostOps2 hostOps2_sub hostOps2_fresh (W7 m ρ)) ]
/-- The program is the run of its eight steps. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every execution ends, with the result array as the fold of the segments
    leaves it, the arguments as launched and every counter at zero. -/
theorem run : θ_run defs (onTc (τ := τ) (main (F := F))) ⟨m, fun _ => 0, ρ⟩ (fun r => (∀ c : Dev nD,
      r.2.mem ((c.tc : Thread nD τ).loc main_v24) = W8 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v24 (by decide)),
       (h c _ (mem_uc main_arg0 (by decide))).trans (W8_args m ρ c main_arg0 (by decide)),
       (h c _ (mem_uc main_arg1 (by decide))).trans (W8_args m ρ c main_arg1 (by decide))⟩), funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run m ρ)

end Cert.KernelIdeal.Hand

end
-- ==== Proof.RefCost.lean ====
module

public import proofs.«01_k».proof.Proof.Gen.ReferenceIdeal.Step
public import proofs.«01_k».proof.Proof.Cost
public import proofs.«01_k».proof.Proof.Layout

@[expose] public section

noncomputable section

/-! # The reference's costs -/

namespace Cert.ReferenceIdeal.Val

open Idealize.ShloMosaic
open Cert.ReferenceIdeal Cert.ReferenceIdeal.Gen Cert.ReferenceIdeal.Step
open Cert.Weights Cert.Layout

variable (a0 a1 : (⟨S2048x513, .f32⟩ : BufTy).Contents (Elt Ideal))

/-- The first argument's rows in sorted order. -/
def arrA : Arr := fun i c => A_main_v10 (F := Ideal) a0 a1 (ix2 i c)

/-- The second argument's rows in sorted order. -/
def arrB : Arr := fun i c => A_main_v21 (F := Ideal) a0 a1 (ix2 i c)

/-- The small number's pattern. -/
theorem ofBits_eps : Ideal.ofBits .f32 0x2EDBE6FF#32 = ((eps : ℝ) : EReal) := by
  simp [Ideal.ofBits, Ideal.ieee, -EReal.coe_mul, eps]; norm_num

/-- Two's pattern. -/
theorem ofBits_two : Ideal.ofBits .f32 0x40000000#32 = ((2 : ℝ) : EReal) := by
  simp [Ideal.ofBits, Ideal.ieee, -EReal.coe_mul]; norm_num

/-- A thousand's pattern. -/
theorem ofBits_thousand : Ideal.ofBits .f32 0x447A0000#32 = ((1000 : ℝ) : EReal) := by
  simp [Ideal.ofBits, Ideal.ieee, -EReal.coe_mul]; norm_num

/-- Minus infinity's pattern. -/
theorem ofBits_bot : Ideal.ofBits .f32 0xFF800000#32 = ⊥ := by
  simp [Ideal.ofBits, Ideal.ieee, -EReal.coe_mul]

/-- The first array's unit rows. -/
theorem v29_apply (i : Fin 2048) (c : Fin 512) : A_main_v29 (F := Ideal) a0 a1 (ix2 i c) = ((unit (arrA a0 a1) i c : ℝ) : EReal) := by
  rw [← unit_div]
  pointwise [A_main_v29, A_main_v28, A_main_v27, A_main_v26, A_main_v24, A_main_v23, A_main_v22, K_main_v25, K_main_cst_3, K_main_cst, arrA, ofBits_eps, zero_add]

/-- The second array's unit rows. -/
theorem v37_apply (i : Fin 2048) (c : Fin 512) : A_main_v37 (F := Ideal) a0 a1 (ix2 i c) = ((unit (arrB a0 a1) i c : ℝ) : EReal) := by
  rw [← unit_div]
  pointwise [A_main_v37, A_main_v36, A_main_v35, A_main_v34, A_main_v32, A_main_v31, A_main_v30, K_main_v33, K_main_cst_5, K_main_cst_4, arrB, ofBits_eps, zero_add]

/-- The products of unit rows. -/
theorem v39_apply (i k : Fin 2048) : A_main_v39 (F := Ideal) a0 a1 (ix2 i k) = ((dot (arrA a0 a1) (arrB a0 a1) i k : ℝ) : EReal) := by
  rw [← dot_coe]
  simp only [← v29_apply, ← v37_apply]
  pointwise [A_main_v39, A_main_v38, zero_add]

/-- The cosine costs. -/
theorem v41_apply (i k : Fin 2048) : A_main_v41 (F := Ideal) a0 a1 (ix2 i k) = ((1 - dot (arrA a0 a1) (arrB a0 a1) i k : ℝ) : EReal) := by
  have h : A_main_v41 (F := Ideal) a0 a1 (ix2 i k) = 1 - A_main_v39 (F := Ideal) a0 a1 (ix2 i k) := by
    pointwise [A_main_v41, K_main_v40, K_main_cst_6]
  rw [h, v39_apply, ← EReal.coe_one, ← EReal.coe_sub]

/-- The costs and the skips stacked: the upper half. -/
theorem v43_lo (i k : Fin 2048) : A_main_v43 (F := Ideal) a0 a1 (ix2 ⟨i.val, by omega⟩ k) = ((1 - dot (arrA a0 a1) (arrB a0 a1) i k : ℝ) : EReal) := by
  rw [← v41_apply, A_main_v43]
  exact stack_lo _ _ _ i _ k

/-- The costs and the skips stacked: the lower half. -/
theorem v43_hi (i k : Fin 2048) : A_main_v43 (F := Ideal) a0 a1 (ix2 ⟨i.val + 2048, by omega⟩ k) = ((2 : ℝ) : EReal) := by
  rw [A_main_v43]
  refine (stack_hi _ _ _ i _ k).trans ?_
  pointwise [K_main_v42, K_main_cst_7, ofBits_two]

/-- The interleaved columns: position `2k` is the cost of column `k`. -/
theorem v46_even (i k : Fin 2048) : A_main_v46 (F := Ideal) a0 a1 (ix2 i ⟨2 * k.val, by omega⟩) = ((1 - dot (arrA a0 a1) (arrB a0 a1) i k : ℝ) : EReal) := by
  rw [← v43_lo, A_main_v46]
  refine (transpose_apply _ _ _ _ (ix2 ⟨2 * k.val, by omega⟩ i) fun b => match b with | ⟨0, _⟩ => rfl | ⟨1, _⟩ => rfl).trans ?_
  rw [A_main_v45]
  refine (shapeCast_apply _ _ _ (ix2 k ⟨i.val, by omega⟩) ?_).trans ?_
  · rw [Shape.rowMajor_val_two, Shape.rowMajor_val_two]
    show k.val * 4096 + i.val = 2 * k.val * 2048 + i.val
    omega
  · rw [A_main_v44]
    exact transpose_apply _ _ _ _ _ fun b => match b with | ⟨0, _⟩ => rfl | ⟨1, _⟩ => rfl

/-- The interleaved columns: position `2k+1` is a skip. -/
theorem v46_odd (i k : Fin 2048) : A_main_v46 (F := Ideal) a0 a1 (ix2 i ⟨2 * k.val + 1, by omega⟩) = ((2 : ℝ) : EReal) := by
  rw [← v43_hi a0 a1 i k, A_main_v46]
  refine (transpose_apply _ _ _ _ (ix2 ⟨2 * k.val + 1, by omega⟩ i) fun b => match b with | ⟨0, _⟩ => rfl | ⟨1, _⟩ => rfl).trans ?_
  rw [A_main_v45]
  refine (shapeCast_apply _ _ _ (ix2 k ⟨i.val + 2048, by omega⟩) ?_).trans ?_
  · rw [Shape.rowMajor_val_two, Shape.rowMajor_val_two]
    show k.val * 4096 + (i.val + 2048) = (2 * k.val + 1) * 2048 + i.val
    omega
  · rw [A_main_v44]
    exact transpose_apply _ _ _ _ _ fun b => match b with | ⟨0, _⟩ => rfl | ⟨1, _⟩ => rfl

/-- The row of costs before the softmax, as reals. -/
def pre (i : Fin 2048) (n : Fin 4097) : ℝ :=
  if h : n.val % 2 = 0 then 2 else 1 - dot (arrA a0 a1) (arrB a0 a1) i ⟨n.val / 2, by omega⟩

/-- The row of costs before the softmax. -/
theorem v48_apply (i : Fin 2048) (n : Fin 4097) : A_main_v48 (F := Ideal) a0 a1 (ix2 i n) = ((pre a0 a1 i n : ℝ) : EReal) := by
  have step : ∀ m : Fin 4096, n.val = m.val + 1 → A_main_v48 (F := Ideal) a0 a1 (ix2 i n) = A_main_v46 (F := Ideal) a0 a1 (ix2 i m) := by
    intro m hm
    rw [A_main_v48]
    exact beside_hi _ _ _ i m n hm
  unfold pre
  split
  · next h =>
    by_cases h0 : n.val = 0
    · rw [A_main_v48]
      refine (beside_lo _ _ _ i ⟨0, by omega⟩ n h0).trans ?_
      pointwise [K_main_v47, K_main_cst_8, ofBits_two]
    · have hn := n.isLt
      rw [step ⟨2 * (n.val / 2 - 1) + 1, by omega⟩ (by show n.val = 2 * (n.val / 2 - 1) + 1 + 1; omega)]
      exact v46_odd a0 a1 i ⟨n.val / 2 - 1, by omega⟩
  · next h =>
    have hn := n.isLt
    rw [step ⟨2 * (n.val / 2), by omega⟩ (by show n.val = 2 * (n.val / 2) + 1; omega)]
    exact v46_even a0 a1 i ⟨n.val / 2, by omega⟩

/-- The row maximum. -/
theorem v51_apply (i : Fin 2048) :
    A_main_v51 (F := Ideal) a0 a1 (ix1 i) = max ⊥ (Finset.univ.fold max (⊥ : EReal) fun n : Fin 4097 => A_main_v48 (F := Ideal) a0 a1 (ix2 i n)) := by
  have h50 : K_main_v50 (F := Ideal) (ix1 i) = ⊥ := by pointwise [K_main_v50, K_main_cst_10, ofBits_bot]
  have h49 : A_main_v49 (F := Ideal) a0 a1 (ix1 i) = Finset.univ.fold max (⊥ : EReal) fun n : Fin 4097 => A_main_v48 (F := Ideal) a0 a1 (ix2 i n) := by
    rw [A_main_v49, rowMax, show K_main_cst_9 (F := Ideal) (Shape.Idx.first h_S_) = ⊥ from ofBits_bot]
  rw [A_main_v51, ValueIdx.maximumf_apply, h50, h49]

/-- The exponentials about the row maximum. -/
theorem v55_apply (i : Fin 2048) (n : Fin 4097) :
    A_main_v55 (F := Ideal) a0 a1 (ix2 i n) = Ideal.exp (A_main_v48 (F := Ideal) a0 a1 (ix2 i n) - A_main_v51 (F := Ideal) a0 a1 (ix1 i)) := by
  pointwise [A_main_v55, A_main_v54, A_main_v53, A_main_v52]

/-- The quotient by the sum of the exponentials. -/
theorem v59_apply' (i : Fin 2048) (n : Fin 4097) :
    A_main_v59 (F := Ideal) a0 a1 (ix2 i n) = Ideal.div (A_main_v55 (F := Ideal) a0 a1 (ix2 i n)) (0 + ∑ m : Fin 4097, A_main_v55 (F := Ideal) a0 a1 (ix2 i m)) := by
  have h56 : A_main_v56 (F := Ideal) a0 a1 (ix1 i) = 0 + ∑ m : Fin 4097, A_main_v55 (F := Ideal) a0 a1 (ix2 i m) := by
    rw [A_main_v56, rowSum, show K_main_cst_11 (F := Ideal) (Shape.Idx.first h_S_) = 0 from Ideal.ofBits_zero_f32]
  rw [← h56]
  pointwise [A_main_v59, A_main_v58, A_main_v57]

/-- The softmax costs. -/
theorem v59_apply (i : Fin 2048) (n : Fin 4097) : A_main_v59 (F := Ideal) a0 a1 (ix2 i n) = ((C (arrA a0 a1) (arrB a0 a1) i n : ℝ) : EReal) := by
  rw [v59_apply', ← softmax_C (arrA a0 a1) (arrB a0 a1) i (pre a0 a1 i) (fun n hn => dif_pos hn) ?_ n,
    ← softmaxRow (fun n : Fin 4097 => A_main_v48 (F := Ideal) a0 a1 (ix2 i n)) (pre a0 a1 i) (v48_apply a0 a1 i) n]
  · simp only [v55_apply, v51_apply]
  · intro n k hk
    unfold pre
    rw [dif_neg (by omega)]
    rw [show (⟨n.val / 2, by omega⟩ : Fin 2048) = k from Fin.ext (by show n.val / 2 = k.val; omega)]

end Cert.ReferenceIdeal.Val

end
-- ==== Proof.Host.lean ====
module

public import proofs.«01_k».proof.Proof.KernelRun
public import proofs.«01_k».proof.Proof.RefCost
public import Idealize.ShloMosaic.Lib.StableHlo.RunRead

@[expose] public section

noncomputable section

/-! # The two sorted arrays, the same in both programs -/

namespace Cert.KernelIdeal.Val

open Idealize.ShloMosaic Idealize.ShloMosaic.TcCoe Idealize.ShloMosaic.StableHlo
open Cert.KernelIdeal Cert.KernelIdeal.Gen Cert.KernelIdeal.Hand

variable (m : (ℓ : Loc nD τ sig) → Buf (Elt Ideal) ℓ) (ρ : Dev nD → PrngReg) (c : Dev nD)

set_option maxRecDepth 65536 in
set_option maxHeartbeats 1000000 in
/-- The first array the kernel's first launch reads is the reference's first sorted array. -/
theorem host_v10 : W5 m ρ c (Proc.devRef .tc main_v10)
    = Cert.ReferenceIdeal.Step.A_main_v10 (F := Ideal) (m ((c.tc : Thread nD τ).loc main_arg0)) (m ((c.tc : Thread nD τ).loc main_arg1)) := by
  unfold W5 W4 W3 W2 W1
  after_reads_simp
  rfl

set_option maxRecDepth 65536 in
set_option maxHeartbeats 1000000 in
/-- The second likewise. -/
theorem host_v21 : W5 m ρ c (Proc.devRef .tc main_v21)
    = Cert.ReferenceIdeal.Step.A_main_v21 (F := Ideal) (m ((c.tc : Thread nD τ).loc main_arg0)) (m ((c.tc : Thread nD τ).loc main_arg1)) := by
  unfold W5 W4 W3 W2 W1
  after_reads_simp
  rfl

end Cert.KernelIdeal.Val

end
-- ==== Proof.KernelValue.lean ====
module

public import proofs.«01_k».proof.Proof.Arrays
public import proofs.«01_k».proof.Proof.Host

@[expose] public section

noncomputable section

/-! # The kernel's result -/

namespace Cert.KernelIdeal.Val

open Idealize.ShloMosaic Idealize.ShloMosaic.TcCoe Idealize.ShloMosaic.StableHlo
open Cert.KernelIdeal Cert.KernelIdeal.Gen Cert.KernelIdeal.Hand Cert.Weights
open Cert.ReferenceIdeal.Val (arrA arrB)

variable (m : (ℓ : Loc nD τ sig) → Buf (Elt Ideal) ℓ) (ρ : Dev nD → PrngReg) (c : Dev nD)

/-- The first sorted array of a memory. -/
abbrev sortA : Arr := arrA (m ((c.tc : Thread nD τ).loc main_arg0)) (m ((c.tc : Thread nD τ).loc main_arg1))
/-- The second sorted array of a memory. -/
abbrev sortB : Arr := arrB (m ((c.tc : Thread nD τ).loc main_arg0)) (m ((c.tc : Thread nD τ).loc main_arg1))

/-- The first launch reads the first sorted array. -/
theorem reads_A (i : Fin 2048) (k : Fin 512) : (V5 m ρ c main_v10 : S2048x512.Idx → EReal) (ix2 i k) = sortA m c i k :=
  congrFun (host_v10 m ρ c) (ix2 i k)

/-- The first launch reads the second sorted array. -/
theorem reads_B (i : Fin 2048) (k : Fin 512) : (V5 m ρ c main_v21 : S2048x512.Idx → EReal) (ix2 i k) = sortB m c i k :=
  congrFun (host_v21 m ρ c) (ix2 i k)

/-- The second launch reads the exponentials. -/
theorem reads_E (i : Fin 2048) (r : Fin 16) (k : Fin 128) :
    (V6 m ρ c main_v22_0 : S2048x16x128.Idx → EReal) (ix3 i r k) = ((ex (sortA m c) (sortB m c) i.val (128 * r.val + k.val) : ℝ) : EReal) :=
  congrFun ((W6_arr m ρ c 2).trans (final0_2 (V5 m ρ) c (reads_A m ρ c) (reads_B m ρ c))) (ix3 i r k)

/-- The second launch reads the scales. -/
theorem reads_S (i : Fin 2048) : (V6 m ρ c main_v22_1 : S2048x1.Idx → EReal) (ix2 i 0) = ((su (sortA m c) (sortB m c) i.val : ℝ) : EReal) :=
  congrFun ((W6_arr m ρ c 3).trans (final0_3 (V5 m ρ) c (reads_A m ρ c) (reads_B m ρ c))) (ix2 i 0)

/-- The second launch leaves the loss. -/
theorem leaves_loss : (W7 m ρ c (Proc.devRef .tc main_v23) : S1x1.Idx → EReal) = fun _ => answer (sortA m c) (sortB m c) :=
  (W7_arr m ρ c 2).trans (final1_2 (V6 m ρ) c (reads_E m ρ c) (reads_S m ρ c))

/-- A constant array reshaped is the constant array. -/
theorem reshape_const (x : FVec Ideal S1x1 .f32) (v : EReal) (h : x = fun _ => v) : shapeCast S_ x shapeCasts_S1x1_S_ = fun _ => v := by
  subst h
  rfl

/-- The program returns the loss. -/
theorem returns_loss : (W8 m ρ c (Proc.devRef .tc main_v24) : S_.Idx → EReal) = fun _ => answer (sortA m c) (sortB m c) := by
  refine Eq.trans ?_ (reshape_const (W7 m ρ c (Proc.devRef .tc main_v23)) _ (leaves_loss m ρ c))
  unfold W8
  generalize W7 m ρ c = W
  after_reads_simp
  rfl

end Cert.KernelIdeal.Val

end
-- ==== Proof.RefFrame.lean ====
module

public import proofs.«01_k».proof.Proof.Gen.ReferenceIdeal
public import proofs.«01_k».proof.Proof.Gen.ReferenceIdeal.Run
public import Idealize.ShloMosaic.Lib.Quiescent

@[expose] public section

noncomputable section

namespace Cert.ReferenceIdeal.RefRun

open Idealize.ShloMosaic Idealize.ShloMosaic.TcCoe Idealize.SL.Sem
open Cert.ReferenceIdeal

variable {F : FTy → Type} [FloatOps F]

/-- The reference's run leaves its two arguments as they were and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Value.run m ρ)

end Cert.ReferenceIdeal.RefRun

end
-- ==== Proof.RefEntry.lean ====
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]
variable (m : (ℓ : Loc nD τ sig) → Buf (Elt F) ℓ) (c : Dev nD)

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

/-- The buffers after the first four stretches of host operations. -/
abbrev W3 : Valuation τ sig (Elt F) := after hostOps0_3 (after hostOps0_2 (after hostOps0_1 (after hostOps0 (launchContents m c))))

set_option maxRecDepth 65536 in
set_option maxHeartbeats 1000000 in
/-- Before the loop, value 41 is that of the arguments. -/
theorem entry_41 : upto hostOps0_4 (W3 m c) 37 (Proc.devRef .tc main_v41) = Step.A_main_v41 (m ((c.tc : Thread nD τ).loc main_arg0)) (m ((c.tc : Thread nD τ).loc main_arg1)) := by
  unfold W3
  after_reads_simp
  rfl

set_option maxRecDepth 65536 in
set_option maxHeartbeats 1000000 in
/-- Before the loop, value 42 is the program's constant. -/
theorem entry_42 : upto hostOps0_4 (W3 m c) 37 (Proc.devRef .tc main_v42) = Step.K_main_v42 (F := F) := by
  unfold W3
  after_reads_simp
  rfl

set_option maxRecDepth 65536 in
set_option maxHeartbeats 1000000 in
/-- Before the loop, value 46 is that of the arguments. -/
theorem entry_46 : upto hostOps0_4 (W3 m c) 43 (Proc.devRef .tc main_v46) = Step.A_main_v46 (m ((c.tc : Thread nD τ).loc main_arg0)) (m ((c.tc : Thread nD τ).loc main_arg1)) := by
  unfold W3
  after_reads_simp
  rw [show upto hostOps0_4 (after hostOps0_3 (after hostOps0_2 (after hostOps0_1 (after hostOps0 (launchContents m c))))) 37 (Proc.devRef .tc main_v41) = Step.A_main_v41 (m ((c.tc : Thread nD τ).loc main_arg0)) (m ((c.tc : Thread nD τ).loc main_arg1)) from entry_41 m c,
    show upto hostOps0_4 (after hostOps0_3 (after hostOps0_2 (after hostOps0_1 (after hostOps0 (launchContents m c))))) 37 (Proc.devRef .tc main_v42) = Step.K_main_v42 (F := F) from entry_42 m c]
  rfl

set_option maxRecDepth 65536 in
set_option maxHeartbeats 1000000 in
/-- Before the loop, value 47 is the program's constant. -/
theorem entry_47 : upto hostOps0_4 (W3 m c) 43 (Proc.devRef .tc main_v47) = Step.K_main_v47 (F := F) := by
  unfold W3
  after_reads_simp
  rfl

set_option maxRecDepth 65536 in
set_option maxHeartbeats 1000000 in
/-- The loop's counter starts at zero. -/
theorem entry_2 : (entryContents preI m c) (Proc.devRef .tc main_v71_2) = constantI S_ 32 (BitVec.ofNat 32 0) := by
  simp only [entryContents, afterL_cons, afterL_nil]; after_reads_simp
  rfl
set_option maxRecDepth 65536 in
set_option maxHeartbeats 1000000 in
/-- The loop starts with the prefix ends. -/
theorem entry_1 : (entryContents preI m c) (Proc.devRef .tc main_v71_1) = Cert.ReferenceIdeal.Step.K_main_v67 (F := F) := by
  simp only [entryContents, afterL_cons, afterL_nil]; after_reads_simp; rfl
set_option maxRecDepth 65536 in
set_option maxHeartbeats 1000000 in
/-- The loop starts with the softmax costs. -/
theorem entry_0 : (entryContents preI m c) (Proc.devRef .tc main_v71_0) = (initState m c).main_v71_0 := by
  simp only [entryContents, afterL_cons, afterL_nil]; after_reads_simp
  rw [show upto hostOps0_4 (after hostOps0_3 (after hostOps0_2 (after hostOps0_1 (after hostOps0 (launchContents m c))))) 43 (Proc.devRef .tc main_v47) = Step.K_main_v47 (F := F) from entry_47 m c,
    show upto hostOps0_4 (after hostOps0_3 (after hostOps0_2 (after hostOps0_1 (after hostOps0 (launchContents m c))))) 43 (Proc.devRef .tc main_v46) = Step.A_main_v46 (m ((c.tc : Thread nD τ).loc main_arg0)) (m ((c.tc : Thread nD τ).loc main_arg1)) from entry_46 m c]
  rfl
set_option maxRecDepth 65536 in
set_option maxHeartbeats 1000000 in
/-- The loop starts with the first row of the costs. -/
theorem entry_3 : (entryContents preI m c) (Proc.devRef .tc main_v71_3) = (initState m c).main_v71_3 := by
  simp only [entryContents, afterL_cons, afterL_nil]; after_reads_simp
  rw [show upto hostOps0_4 (after hostOps0_3 (after hostOps0_2 (after hostOps0_1 (after hostOps0 (launchContents m c))))) 43 (Proc.devRef .tc main_v47) = Step.K_main_v47 (F := F) from entry_47 m c,
    show upto hostOps0_4 (after hostOps0_3 (after hostOps0_2 (after hostOps0_1 (after hostOps0 (launchContents m c))))) 43 (Proc.devRef .tc main_v46) = Step.A_main_v46 (m ((c.tc : Thread nD τ).loc main_arg0)) (m ((c.tc : Thread nD τ).loc main_arg1)) from entry_46 m c]
  rfl

end Cert.ReferenceIdeal.RefRun

end
-- ==== Proof.RefRun.lean ====
module

public import proofs.«01_k».proof.Proof.Gen.ReferenceIdeal.Run
public import proofs.«01_k».proof.Proof.Gen.ReferenceIdeal.Step
public import proofs.«01_k».proof.Proof.RefEntry

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v71_3) = s.main_v71_3
  f_0 : V0 (Proc.devRef .tc main_v71_0) = s.main_v71_0
  n_2 : V0 (Proc.devRef .tc main_v71_2) = constantI S_ 32 (BitVec.ofNat 32 j)
  k_1 : V0 (Proc.devRef .tc main_v71_1) = Cert.ReferenceIdeal.Step.K_main_v67 (F := F)

variable {V0 s j}

set_option maxRecDepth 8192 in
/-- Value 0 of a trip is the one computed from the state. -/
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
/-- Value 1 of a trip is the one computed from the state. -/
theorem al_1 (h : Holds V0 s j) : (Host.dynamicSlice S1x4097 (V0 (Proc.devRef .tc main_v71_0)) (fun k => (((![V0 (Proc.devRef .tc main_v71_2), constantI S_ 32 0#32] : Fin 2 → (⟨S_, .i32⟩ : BufTy).Contents (Elt F))) k (Shape.Idx.first h_S_)).toInt) sliceFits_S2047x4097_S1x4097 : (Proc.devRef .tc main_while0b_call3_v0 : DevRef τ sig).ty.Contents (Elt F)) = Cert.ReferenceIdeal.Step.b1 j s := by
  unfold Cert.ReferenceIdeal.Step.b1
  rw [← al_0 h, h.f_0, h.n_2]
  try rfl
set_option maxRecDepth 8192 in
/-- Value 2 of a trip is the one computed from the state. -/
theorem al_2 (h : Holds V0 s j) : (shapeCast S4097 (Host.dynamicSlice S1x4097 (V0 (Proc.devRef .tc main_v71_0)) (fun k => (((![V0 (Proc.devRef .tc main_v71_2), constantI S_ 32 0#32] : Fin 2 → (⟨S_, .i32⟩ : BufTy).Contents (Elt F))) k (Shape.Idx.first h_S_)).toInt) sliceFits_S2047x4097_S1x4097) shapeCasts_S1x4097_S4097 : (Proc.devRef .tc main_while0b_v89 : DevRef τ sig).ty.Contents (Elt F)) = Cert.ReferenceIdeal.Step.b2 j s := by
  unfold Cert.ReferenceIdeal.Step.b2
  rw [← al_1 h]
  try rfl
set_option maxRecDepth 8192 in
/-- Value 3 of a trip is the one computed from the state. -/
theorem al_3 (h : Holds V0 s j) : (Host.negf (V0 (Proc.devRef .tc main_v71_3)) : (Proc.devRef .tc main_while0b_v90 : DevRef τ sig).ty.Contents (Elt F)) = Cert.ReferenceIdeal.Step.b3 j s := by
  unfold Cert.ReferenceIdeal.Step.b3
  rw [h.f_3]
  try rfl
set_option maxRecDepth 8192 in
/-- Value 4 of a trip is the one computed from the state. -/
theorem al_4 (h : Holds V0 s j) : (constant S_ .f32 0x3F800000#32 : (Proc.devRef .tc main_while0b_cst_25 : DevRef τ sig).ty.Contents (Elt F)) = Cert.ReferenceIdeal.Step.b4 j s := by
  unfold Cert.ReferenceIdeal.Step.b4
  rfl
set_option maxRecDepth 8192 in
/-- Value 5 of a trip is the one computed from the state. -/
theorem al_5 (h : Holds V0 s j) : (constant S_ .f32 0x447A0000#32 : (Proc.devRef .tc main_while0b_cst_26 : DevRef τ sig).ty.Contents (Elt F)) = Cert.ReferenceIdeal.Step.b5 j s := by
  unfold Cert.ReferenceIdeal.Step.b5
  rfl
set_option maxRecDepth 8192 in
/-- Value 6 of a trip is the one computed from the state. -/
theorem al_6 (h : Holds V0 s j) : (Host.divf (constant S_ .f32 0x3F800000#32) (constant S_ .f32 0x447A0000#32) : (Proc.devRef .tc main_while0b_v91 : DevRef τ sig).ty.Contents (Elt F)) = Cert.ReferenceIdeal.Step.b6 j s := by
  unfold Cert.ReferenceIdeal.Step.b6
  rw [← al_4 h, ← al_5 h]
  try rfl
set_option maxRecDepth 8192 in
/-- Value 7 of a trip is the one computed from the state. -/
theorem al_7 (h : Holds V0 s j) : (broadcastInDim S4097 ![] bcast_S_S4097 (Host.divf (constant S_ .f32 0x3F800000#32) (constant S_ .f32 0x447A0000#32)) : (Proc.devRef .tc main_while0b_v92 : DevRef τ sig).ty.Contents (Elt F)) = Cert.ReferenceIdeal.Step.b7 j s := by
  unfold Cert.ReferenceIdeal.Step.b7
  rw [← al_6 h]
  try rfl
set_option maxRecDepth 8192 in
/-- Value 8 of a trip is the one computed from the state. -/
theorem al_8 (h : Holds V0 s j) : (Host.divf (Host.negf (V0 (Proc.devRef .tc main_v71_3))) (broadcastInDim S4097 ![] bcast_S_S4097 (Host.divf (constant S_ .f32 0x3F800000#32) (constant S_ .f32 0x447A0000#32))) : (Proc.devRef .tc main_while0b_v93 : DevRef τ sig).ty.Contents (Elt F)) = Cert.ReferenceIdeal.Step.b8 j s := by
  unfold Cert.ReferenceIdeal.Step.b8
  rw [← al_3 h, ← al_7 h]
  try rfl
set_option maxRecDepth 8192 in
/-- Value 9 of a trip is the one computed from the state. -/
theorem al_9 (h : Holds V0 s j) : (iotaInDim S4097x4097 32 1 : (Proc.devRef .tc main_while0b_v94 : DevRef τ sig).ty.Contents (Elt F)) = Cert.ReferenceIdeal.Step.b9 j s := by
  unfold Cert.ReferenceIdeal.Step.b9
  rfl
set_option maxRecDepth 8192 in
/-- Value 10 of a trip is the one computed from the state. -/
theorem al_10 (h : Holds V0 s j) : (iotaInDim S4097x4097 32 0 : (Proc.devRef .tc main_while0b_v95 : DevRef τ sig).ty.Contents (Elt F)) = Cert.ReferenceIdeal.Step.b10 j s := by
  unfold Cert.ReferenceIdeal.Step.b10
  rfl
set_option maxRecDepth 8192 in
/-- Value 11 of a trip is the one computed from the state. -/
theorem al_11 (h : Holds V0 s j) : (cmpi .sle (iotaInDim S4097x4097 32 1) (iotaInDim S4097x4097 32 0) : (Proc.devRef .tc main_while0b_v96 : DevRef τ sig).ty.Contents (Elt F)) = Cert.ReferenceIdeal.Step.b11 j s := by
  unfold Cert.ReferenceIdeal.Step.b11
  rw [← al_9 h, ← al_10 h]
  try rfl
set_option maxRecDepth 8192 in
/-- Value 12 of a trip is the one computed from the state. -/
theorem al_12 (h : Holds V0 s j) : (broadcastInDim S1x4097 ![1] bcast_S4097_S1x4097_1 (Host.divf (Host.negf (V0 (Proc.devRef .tc main_v71_3))) (broadcastInDim S4097 ![] bcast_S_S4097 (Host.divf (constant S_ .f32 0x3F800000#32) (constant S_ .f32 0x447A0000#32)))) : (Proc.devRef .tc main_while0b_v97 : DevRef τ sig).ty.Contents (Elt F)) = Cert.ReferenceIdeal.Step.b12 j s := by
  unfold Cert.ReferenceIdeal.Step.b12
  rw [← al_8 h]
  try rfl
set_option maxRecDepth 8192 in
/-- Value 13 of a trip is the one computed from the state. -/
theorem al_13 (h : Holds V0 s j) : (constant S_ .f32 0xFF800000#32 : (Proc.devRef .tc main_while0b_cst_27 : DevRef τ sig).ty.Contents (Elt F)) = Cert.ReferenceIdeal.Step.b13 j s := by
  unfold Cert.ReferenceIdeal.Step.b13
  rfl
set_option maxRecDepth 8192 in
/-- Value 14 of a trip is the one computed from the state. -/
theorem al_14 (h : Holds V0 s j) : (id (constant S_ .f32 0xFF800000#32) : (Proc.devRef .tc main_while0b_call4_v0 : DevRef τ sig).ty.Contents (Elt F)) = Cert.ReferenceIdeal.Step.b14 j s := by
  unfold Cert.ReferenceIdeal.Step.b14
  rw [← al_13 h]
  try rfl
set_option maxRecDepth 8192 in
/-- Value 15 of a trip is the one computed from the state. -/
theorem al_15 (h : Holds V0 s j) : (broadcastInDim S4097x4097 ![0, 1] bcast_S1x4097_S4097x4097_0_1 (broadcastInDim S1x4097 ![1] bcast_S4097_S1x4097_1 (Host.divf (Host.negf (V0 (Proc.devRef .tc main_v71_3))) (broadcastInDim S4097 ![] bcast_S_S4097 (Host.divf (constant S_ .f32 0x3F800000#32) (constant S_ .f32 0x447A0000#32))))) : (Proc.devRef .tc main_while0b_call4_v1 : DevRef τ sig).ty.Contents (Elt F)) = Cert.ReferenceIdeal.Step.b15 j s := by
  unfold Cert.ReferenceIdeal.Step.b15
  rw [← al_12 h]
  try rfl
set_option maxRecDepth 8192 in
/-- Value 16 of a trip is the one computed from the state. -/
theorem al_16 (h : Holds V0 s j) : (broadcastInDim S4097x4097 ![] bcast_S_S4097x4097 (id (constant S_ .f32 0xFF800000#32)) : (Proc.devRef .tc main_while0b_call4_v2 : DevRef τ sig).ty.Contents (Elt F)) = Cert.ReferenceIdeal.Step.b16 j s := by
  unfold Cert.ReferenceIdeal.Step.b16
  rw [← al_14 h]
  try rfl
set_option maxRecDepth 8192 in
/-- Value 17 of a trip is the one computed from the state. -/
theorem al_17 (h : Holds V0 s j) : (res_main_while0b_v98 V0 : (Proc.devRef .tc main_while0b_v98 : DevRef τ sig).ty.Contents (Elt F)) = Cert.ReferenceIdeal.Step.b17 j s := by
  unfold res_main_while0b_v98 Cert.ReferenceIdeal.Step.b17
  rw [← al_11 h, ← al_15 h, ← al_16 h]
  try rfl
set_option maxRecDepth 8192 in
/-- Value 18 of a trip is the one computed from the state. -/
theorem al_18 (h : Holds V0 s j) : (constant S_ .f32 0xFF800000#32 : (Proc.devRef .tc main_while0b_cst_28 : DevRef τ sig).ty.Contents (Elt F)) = Cert.ReferenceIdeal.Step.b18 j s := by
  unfold Cert.ReferenceIdeal.Step.b18
  rfl
set_option maxRecDepth 8192 in
/-- Value 19 of a trip is the one computed from the state. -/
theorem al_19 (h : Holds V0 s j) : (Host.reduce FloatOps.maximumf (res_main_while0b_v98 V0) (constant S_ .f32 0xFF800000#32) reducesTo_S4097x4097_S4097_d1 h_S_ : (Proc.devRef .tc main_while0b_v99 : DevRef τ sig).ty.Contents (Elt F)) = Cert.ReferenceIdeal.Step.b19 j s := by
  unfold Cert.ReferenceIdeal.Step.b19
  rw [← al_17 h, ← al_18 h]
  try rfl
set_option maxRecDepth 8192 in
/-- Value 20 of a trip is the one computed from the state. -/
theorem al_20 (h : Holds V0 s j) : (res_main_while0b_v100 V0 : (Proc.devRef .tc main_while0b_v100 : DevRef τ sig).ty.Contents (Elt F)) = Cert.ReferenceIdeal.Step.b20 j s := by
  unfold res_main_while0b_v100 Cert.ReferenceIdeal.Step.b20
  rw [← al_19 h]
  try rfl
set_option maxRecDepth 8192 in
/-- Value 21 of a trip is the one computed from the state. -/
theorem al_21 (h : Holds V0 s j) : (broadcastInDim S4097x4097 ![0, 1] bcast_S4097x1_S4097x4097_0_1 (res_main_while0b_v100 V0) : (Proc.devRef .tc main_while0b_v101 : DevRef τ sig).ty.Contents (Elt F)) = Cert.ReferenceIdeal.Step.b21 j s := by
  unfold Cert.ReferenceIdeal.Step.b21
  rw [← al_20 h]
  try rfl
set_option maxRecDepth 8192 in
/-- Value 22 of a trip is the one computed from the state. -/
theorem al_22 (h : Holds V0 s j) : (subf (res_main_while0b_v98 V0) (broadcastInDim S4097x4097 ![0, 1] bcast_S4097x1_S4097x4097_0_1 (res_main_while0b_v100 V0)) : (Proc.devRef .tc main_while0b_v102 : DevRef τ sig).ty.Contents (Elt F)) = Cert.ReferenceIdeal.Step.b22 j s := by
  unfold Cert.ReferenceIdeal.Step.b22
  rw [← al_17 h, ← al_21 h]
  try rfl
set_option maxRecDepth 8192 in
/-- Value 23 of a trip is the one computed from the state. -/
theorem al_23 (h : Holds V0 s j) : (Host.exp (subf (res_main_while0b_v98 V0) (broadcastInDim S4097x4097 ![0, 1] bcast_S4097x1_S4097x4097_0_1 (res_main_while0b_v100 V0))) : (Proc.devRef .tc main_while0b_v103 : DevRef τ sig).ty.Contents (Elt F)) = Cert.ReferenceIdeal.Step.b23 j s := by
  unfold Cert.ReferenceIdeal.Step.b23
  rw [← al_22 h]
  try rfl
set_option maxRecDepth 8192 in
/-- Value 24 of a trip is the one computed from the state. -/
theorem al_24 (h : Holds V0 s j) : (constant S_ .f32 0x00000000#32 : (Proc.devRef .tc main_while0b_cst_29 : DevRef τ sig).ty.Contents (Elt F)) = Cert.ReferenceIdeal.Step.b24 j s := by
  unfold Cert.ReferenceIdeal.Step.b24
  rfl
set_option maxRecDepth 8192 in
/-- Value 25 of a trip is the one computed from the state. -/
theorem al_25 (h : Holds V0 s j) : (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_ : (Proc.devRef .tc main_while0b_v104 : DevRef τ sig).ty.Contents (Elt F)) = Cert.ReferenceIdeal.Step.b25 j s := by
  unfold Cert.ReferenceIdeal.Step.b25
  rw [← al_23 h, ← al_24 h]
  try rfl
set_option maxRecDepth 8192 in
/-- Value 26 of a trip is the one computed from the state. -/
theorem al_26 (h : Holds V0 s j) : (broadcastInDim S4097x1 ![0] bcast_S4097_S4097x1_0 (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_) : (Proc.devRef .tc main_while0b_v105 : DevRef τ sig).ty.Contents (Elt F)) = Cert.ReferenceIdeal.Step.b26 j s := by
  unfold Cert.ReferenceIdeal.Step.b26
  rw [← al_25 h]
  try rfl
set_option maxRecDepth 8192 in
/-- Value 27 of a trip is the one computed from the state. -/
theorem al_27 (h : Holds V0 s j) : (Host.log (broadcastInDim S4097x1 ![0] bcast_S4097_S4097x1_0 (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_)) : (Proc.devRef .tc main_while0b_v106 : DevRef τ sig).ty.Contents (Elt F)) = Cert.ReferenceIdeal.Step.b27 j s := by
  unfold Cert.ReferenceIdeal.Step.b27
  rw [← al_26 h]
  try rfl
set_option maxRecDepth 8192 in
/-- Value 28 of a trip is the one computed from the state. -/
theorem al_28 (h : Holds V0 s j) : (addf (res_main_while0b_v100 V0) (Host.log (broadcastInDim S4097x1 ![0] bcast_S4097_S4097x1_0 (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_))) : (Proc.devRef .tc main_while0b_v107 : DevRef τ sig).ty.Contents (Elt F)) = Cert.ReferenceIdeal.Step.b28 j s := by
  unfold Cert.ReferenceIdeal.Step.b28
  rw [← al_20 h, ← al_27 h]
  try rfl
set_option maxRecDepth 8192 in
/-- Value 29 of a trip is the one computed from the state. -/
theorem al_29 (h : Holds V0 s j) : (shapeCast S4097 (addf (res_main_while0b_v100 V0) (Host.log (broadcastInDim S4097x1 ![0] bcast_S4097_S4097x1_0 (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_)))) shapeCasts_S4097x1_S4097 : (Proc.devRef .tc main_while0b_v108 : DevRef τ sig).ty.Contents (Elt F)) = Cert.ReferenceIdeal.Step.b29 j s := by
  unfold Cert.ReferenceIdeal.Step.b29
  rw [← al_28 h]
  try rfl
set_option maxRecDepth 8192 in
/-- Value 30 of a trip is the one computed from the state. -/
theorem al_30 (h : Holds V0 s j) : (constant S_ .f32 0x3F800000#32 : (Proc.devRef .tc main_while0b_cst_30 : DevRef τ sig).ty.Contents (Elt F)) = Cert.ReferenceIdeal.Step.b30 j s := by
  unfold Cert.ReferenceIdeal.Step.b30
  rfl
set_option maxRecDepth 8192 in
/-- Value 31 of a trip is the one computed from the state. -/
theorem al_31 (h : Holds V0 s j) : (constant S_ .f32 0x447A0000#32 : (Proc.devRef .tc main_while0b_cst_31 : DevRef τ sig).ty.Contents (Elt F)) = Cert.ReferenceIdeal.Step.b31 j s := by
  unfold Cert.ReferenceIdeal.Step.b31
  rfl
set_option maxRecDepth 8192 in
/-- Value 32 of a trip is the one computed from the state. -/
theorem al_32 (h : Holds V0 s j) : (Host.divf (constant S_ .f32 0x3F800000#32) (constant S_ .f32 0x447A0000#32) : (Proc.devRef .tc main_while0b_v109 : DevRef τ sig).ty.Contents (Elt F)) = Cert.ReferenceIdeal.Step.b32 j s := by
  unfold Cert.ReferenceIdeal.Step.b32
  rw [← al_30 h, ← al_31 h]
  try rfl
set_option maxRecDepth 8192 in
/-- Value 33 of a trip is the one computed from the state. -/
theorem al_33 (h : Holds V0 s j) : (Host.negf (Host.divf (constant S_ .f32 0x3F800000#32) (constant S_ .f32 0x447A0000#32)) : (Proc.devRef .tc main_while0b_v110 : DevRef τ sig).ty.Contents (Elt F)) = Cert.ReferenceIdeal.Step.b33 j s := by
  unfold Cert.ReferenceIdeal.Step.b33
  rw [← al_32 h]
  try rfl
set_option maxRecDepth 8192 in
/-- Value 34 of a trip is the one computed from the state. -/
theorem al_34 (h : Holds V0 s j) : (constantI S_ 32 0#32 : (Proc.devRef .tc main_while0b_c_32 : DevRef τ sig).ty.Contents (Elt F)) = Cert.ReferenceIdeal.Step.b34 j s := by
  unfold Cert.ReferenceIdeal.Step.b34
  rfl
set_option maxRecDepth 8192 in
/-- Value 35 of a trip is the one computed from the state. -/
theorem al_35 (h : Holds V0 s j) : (broadcastInDim S4097 ![] bcast_S_S4097 (constantI S_ 32 0#32) : (Proc.devRef .tc main_while0b_v111 : DevRef τ sig).ty.Contents (Elt F)) = Cert.ReferenceIdeal.Step.b35 j s := by
  unfold Cert.ReferenceIdeal.Step.b35
  rw [← al_34 h]
  try rfl
set_option maxRecDepth 8192 in
/-- Value 36 of a trip is the one computed from the state. -/
theorem al_36 (h : Holds V0 s j) : (cmpi .slt (V0 (Proc.devRef .tc main_v71_1)) (broadcastInDim S4097 ![] bcast_S_S4097 (constantI S_ 32 0#32)) : (Proc.devRef .tc main_while0b_v112 : DevRef τ sig).ty.Contents (Elt F)) = Cert.ReferenceIdeal.Step.b36 j s := by
  unfold Cert.ReferenceIdeal.Step.b36
  rw [← al_35 h, h.k_1]
  try rfl
set_option maxRecDepth 8192 in
/-- Value 37 of a trip is the one computed from the state. -/
theorem al_37 (h : Holds V0 s j) : (constantI S_ 32 4097#32 : (Proc.devRef .tc main_while0b_c_33 : DevRef τ sig).ty.Contents (Elt F)) = Cert.ReferenceIdeal.Step.b37 j s := by
  unfold Cert.ReferenceIdeal.Step.b37
  rfl
set_option maxRecDepth 8192 in
/-- Value 38 of a trip is the one computed from the state. -/
theorem al_38 (h : Holds V0 s j) : (broadcastInDim S4097 ![] bcast_S_S4097 (constantI S_ 32 4097#32) : (Proc.devRef .tc main_while0b_v113 : DevRef τ sig).ty.Contents (Elt F)) = Cert.ReferenceIdeal.Step.b38 j s := by
  unfold Cert.ReferenceIdeal.Step.b38
  rw [← al_37 h]
  try rfl
set_option maxRecDepth 8192 in
/-- Value 39 of a trip is the one computed from the state. -/
theorem al_39 (h : Holds V0 s j) : (addi (V0 (Proc.devRef .tc main_v71_1)) (broadcastInDim S4097 ![] bcast_S_S4097 (constantI S_ 32 4097#32)) : (Proc.devRef .tc main_while0b_v114 : DevRef τ sig).ty.Contents (Elt F)) = Cert.ReferenceIdeal.Step.b39 j s := by
  unfold Cert.ReferenceIdeal.Step.b39
  rw [← al_38 h, h.k_1]
  try rfl
set_option maxRecDepth 8192 in
/-- Value 40 of a trip is the one computed from the state. -/
theorem al_40 (h : Holds V0 s j) : (select (cmpi .slt (V0 (Proc.devRef .tc main_v71_1)) (broadcastInDim S4097 ![] bcast_S_S4097 (constantI S_ 32 0#32))) (addi (V0 (Proc.devRef .tc main_v71_1)) (broadcastInDim S4097 ![] bcast_S_S4097 (constantI S_ 32 4097#32))) (V0 (Proc.devRef .tc main_v71_1)) : (Proc.devRef .tc main_while0b_v115 : DevRef τ sig).ty.Contents (Elt F)) = Cert.ReferenceIdeal.Step.b40 j s := by
  unfold Cert.ReferenceIdeal.Step.b40
  rw [← al_36 h, ← al_39 h, h.k_1]
  try rfl
set_option maxRecDepth 8192 in
/-- Value 41 of a trip is the one computed from the state. -/
theorem al_41 (h : Holds V0 s j) : (broadcastInDim S4097x1 ![0] bcast_S4097_S4097x1_0 (select (cmpi .slt (V0 (Proc.devRef .tc main_v71_1)) (broadcastInDim S4097 ![] bcast_S_S4097 (constantI S_ 32 0#32))) (addi (V0 (Proc.devRef .tc main_v71_1)) (broadcastInDim S4097 ![] bcast_S_S4097 (constantI S_ 32 4097#32))) (V0 (Proc.devRef .tc main_v71_1))) : (Proc.devRef .tc main_while0b_v116 : DevRef τ sig).ty.Contents (Elt F)) = Cert.ReferenceIdeal.Step.b41 j s := by
  unfold Cert.ReferenceIdeal.Step.b41
  rw [← al_40 h]
  try rfl
set_option maxRecDepth 8192 in
/-- Value 42 of a trip is the one computed from the state. -/
theorem al_42 (h : Holds V0 s j) : (Host.gather gather_S4097_S4097x1_S4097_n_0_n_n_0_1_1 (shapeCast S4097 (addf (res_main_while0b_v100 V0) (Host.log (broadcastInDim S4097x1 ![0] bcast_S4097_S4097x1_0 (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_)))) shapeCasts_S4097x1_S4097) (broadcastInDim S4097x1 ![0] bcast_S4097_S4097x1_0 (select (cmpi .slt (V0 (Proc.devRef .tc main_v71_1)) (broadcastInDim S4097 ![] bcast_S_S4097 (constantI S_ 32 0#32))) (addi (V0 (Proc.devRef .tc main_v71_1)) (broadcastInDim S4097 ![] bcast_S_S4097 (constantI S_ 32 4097#32))) (V0 (Proc.devRef .tc main_v71_1)))) : (Proc.devRef .tc main_while0b_v117 : DevRef τ sig).ty.Contents (Elt F)) = Cert.ReferenceIdeal.Step.b42 j s := by
  unfold Cert.ReferenceIdeal.Step.b42
  rw [← al_29 h, ← al_41 h]
  try rfl
set_option maxRecDepth 8192 in
/-- Value 43 of a trip is the one computed from the state. -/
theorem al_43 (h : Holds V0 s j) : (broadcastInDim S4097 ![] bcast_S_S4097 (Host.negf (Host.divf (constant S_ .f32 0x3F800000#32) (constant S_ .f32 0x447A0000#32))) : (Proc.devRef .tc main_while0b_v118 : DevRef τ sig).ty.Contents (Elt F)) = Cert.ReferenceIdeal.Step.b43 j s := by
  unfold Cert.ReferenceIdeal.Step.b43
  rw [← al_33 h]
  try rfl
set_option maxRecDepth 8192 in
/-- Value 44 of a trip is the one computed from the state. -/
theorem al_44 (h : Holds V0 s j) : (mulf (broadcastInDim S4097 ![] bcast_S_S4097 (Host.negf (Host.divf (constant S_ .f32 0x3F800000#32) (constant S_ .f32 0x447A0000#32)))) (Host.gather gather_S4097_S4097x1_S4097_n_0_n_n_0_1_1 (shapeCast S4097 (addf (res_main_while0b_v100 V0) (Host.log (broadcastInDim S4097x1 ![0] bcast_S4097_S4097x1_0 (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_)))) shapeCasts_S4097x1_S4097) (broadcastInDim S4097x1 ![0] bcast_S4097_S4097x1_0 (select (cmpi .slt (V0 (Proc.devRef .tc main_v71_1)) (broadcastInDim S4097 ![] bcast_S_S4097 (constantI S_ 32 0#32))) (addi (V0 (Proc.devRef .tc main_v71_1)) (broadcastInDim S4097 ![] bcast_S_S4097 (constantI S_ 32 4097#32))) (V0 (Proc.devRef .tc main_v71_1))))) : (Proc.devRef .tc main_while0b_v119 : DevRef τ sig).ty.Contents (Elt F)) = Cert.ReferenceIdeal.Step.b44 j s := by
  unfold Cert.ReferenceIdeal.Step.b44
  rw [← al_43 h, ← al_42 h]
  try rfl
set_option maxRecDepth 8192 in
/-- Value 45 of a trip is the one computed from the state. -/
theorem al_45 (h : Holds V0 s j) : (addf (mulf (broadcastInDim S4097 ![] bcast_S_S4097 (Host.negf (Host.divf (constant S_ .f32 0x3F800000#32) (constant S_ .f32 0x447A0000#32)))) (Host.gather gather_S4097_S4097x1_S4097_n_0_n_n_0_1_1 (shapeCast S4097 (addf (res_main_while0b_v100 V0) (Host.log (broadcastInDim S4097x1 ![0] bcast_S4097_S4097x1_0 (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_)))) shapeCasts_S4097x1_S4097) (broadcastInDim S4097x1 ![0] bcast_S4097_S4097x1_0 (select (cmpi .slt (V0 (Proc.devRef .tc main_v71_1)) (broadcastInDim S4097 ![] bcast_S_S4097 (constantI S_ 32 0#32))) (addi (V0 (Proc.devRef .tc main_v71_1)) (broadcastInDim S4097 ![] bcast_S_S4097 (constantI S_ 32 4097#32))) (V0 (Proc.devRef .tc main_v71_1)))))) (shapeCast S4097 (Host.dynamicSlice S1x4097 (V0 (Proc.devRef .tc main_v71_0)) (fun k => (((![V0 (Proc.devRef .tc main_v71_2), constantI S_ 32 0#32] : Fin 2 → (⟨S_, .i32⟩ : BufTy).Contents (Elt F))) k (Shape.Idx.first h_S_)).toInt) sliceFits_S2047x4097_S1x4097) shapeCasts_S1x4097_S4097) : (Proc.devRef .tc main_while0b_v120 : DevRef τ sig).ty.Contents (Elt F)) = Cert.ReferenceIdeal.Step.b45 j s := by
  unfold Cert.ReferenceIdeal.Step.b45
  rw [← al_44 h, ← al_2 h]
  try rfl

/-! One trip's step of the carried values is `step`, field by field; a counter steps to the next number. -/

theorem step_3 (h : Holds V0 s j) : step_main_v71_3 V0 = (step j s).main_v71_3 := by
  unfold step_main_v71_3 Cert.ReferenceIdeal.Step.step
  show id (addf (mulf (broadcastInDim S4097 ![] bcast_S_S4097 (Host.negf (Host.divf (constant S_ .f32 0x3F800000#32) (constant S_ .f32 0x447A0000#32)))) (Host.gather gather_S4097_S4097x1_S4097_n_0_n_n_0_1_1 (shapeCast S4097 (addf (res_main_while0b_v100 V0) (Host.log (broadcastInDim S4097x1 ![0] bcast_S4097_S4097x1_0 (Host.reduceAdd (Host.exp (subf (res_main_while0b_v98 V0) (broadcastInDim S4097x4097 ![0, 1] bcast_S4097x1_S4097x4097_0_1 (res_main_while0b_v100 V0)))) (constant S_ .f32 0x00000000#32) reducesTo_S4097x4097_S4097_d1 h_S_)))) shapeCasts_S4097x1_S4097) (broadcastInDim S4097x1 ![0] bcast_S4097_S4097x1_0 (select (cmpi .slt (V0 (Proc.devRef .tc main_v71_1)) (broadcastInDim S4097 ![] bcast_S_S4097 (constantI S_ 32 0#32))) (addi (V0 (Proc.devRef .tc main_v71_1)) (broadcastInDim S4097 ![] bcast_S_S4097 (constantI S_ 32 4097#32))) (V0 (Proc.devRef .tc main_v71_1)))))) (shapeCast S4097 (Host.dynamicSlice S1x4097 (V0 (Proc.devRef .tc main_v71_0)) (fun k => (((![V0 (Proc.devRef .tc main_v71_2), constantI S_ 32 0#32] : Fin 2 → (⟨S_, .i32⟩ : BufTy).Contents (Elt F))) k (Shape.Idx.first h_S_)).toInt) sliceFits_S2047x4097_S1x4097) shapeCasts_S1x4097_S4097)) = _
  rw [al_45 h]
  try rfl
theorem step_2 (h : Holds V0 s j) : step_main_v71_2 V0 = constantI S_ 32 (BitVec.ofNat 32 (j + 1)) := by
  unfold step_main_v71_2
  rw [h.n_2]
  funext i
  show BitVec.ofNat 32 j + 1#32 = BitVec.ofNat 32 (j + 1)
  simp only [BitVec.ofNat_add]

set_option maxRecDepth 8192 in
theorem out_main_v88_holds (h : Holds V0 s j) : out_main_v88 V0 = Cert.ReferenceIdeal.Step.R_main_v88 s := by
  unfold out_main_v88 Cert.ReferenceIdeal.Step.R_main_v88
  rw [h.f_3]
  try rfl

/-- One trip keeps the valuation holding: `step` of the state, the same set-up values, the next number. -/
theorem holds_step (h : Holds V0 s j) : Holds (STEP V0) (step j s) (j + 1) where
  f_3 := (STEP_main_v71_3 V0).trans (step_3 h)
  n_2 := (STEP_main_v71_2 V0).trans (step_2 h)
  k_1 := (STEP_main_v71_1 V0).trans h.k_1
  f_0 := (STEP_main_v71_0 V0).trans h.f_0

variable (m : (ℓ : Loc nD τ sig) → Buf (Elt F) ℓ) (c : Dev nD)

theorem entry_holds : Holds (entryContents preI m c) (initState m c) 0 := ⟨entry_3 m c, entry_0 m c, entry_2 m c, entry_1 m c⟩
/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The reference's run ends with its result that of the state number 2047 of any sequence of states that starts at
    `initState` and goes on by `step`, and with its arguments unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v88) = Cert.ReferenceIdeal.Step.R_main_v88 (it c 2047)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 2047
    ⟨(h c).1.trans (out_main_v88_holds hk), (h c).2.1, (h c).2.2⟩) (Value.run m ρ)

end Cert.ReferenceIdeal.RefRun

end
-- ==== Proof.RefIndex.lean ====
module

public import proofs.«01_k».proof.Proof.Gen.ReferenceIdeal.Step
public import proofs.«01_k».proof.Proof.Recursion
public import proofs.«01_k».proof.Proof.Layout
public import Idealize.ShloMosaic.Lib.WordCmp
public import Idealize.ShloMosaic.Lib.Routing.Words
public import Idealize.ShloMosaic.Lib.Routing.OpsPair

@[expose] public section

noncomputable section

/-! # The reference's prefix ends -/

namespace Cert.ReferenceIdeal.Val

open Idealize.ShloMosaic
open Cert.ReferenceIdeal Cert.ReferenceIdeal.Gen Cert.ReferenceIdeal.Step
open Cert.Weights Cert.Layout

variable {F : FTy → Type} [FloatOps F]

/-- The dimension numbers of an element taken per entry of a table. -/
abbrev pick (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- An element taken per entry of a table is the one at the entry, read as a signed number and kept inside. -/
theorem gather_row {α : Type} {N R w : ℕ} (hN : 0 < N) (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (n : Fin R) :
    Host.gather (pick N R wf) x idx (ix1 n) = x (ix1 ⟨min (idx (ix2 n 0)).toInt.toNat (N - 1), by omega⟩) := by
  unfold Host.gather
  congr 1
  funext a
  obtain rfl : a = 0 := Subsingleton.elim _ _
  refine Fin.ext ?_
  show (pick N R wf).start (ix1 n) idx 0 + (pick N R wf).batchCoord (ix1 n) 0 + (pick N R wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pick N R wf).startIndexMap from List.mem_singleton.mpr rfl)]
  have hsi : (pick N R wf).siIdx (ix1 n) ⟨List.idxOf (0 : Fin 1) (pick N R wf).startIndexMap,
      List.idxOf_lt_length_iff.2 (List.mem_singleton.mpr rfl)⟩ = ix2 n 0 := by
    funext b; refine Fin.ext ?_
    match b with
    | ⟨0, _⟩ => rfl
    | ⟨1, _⟩ => rfl
  rw [hsi]
  rfl

/-- The table of prefix ends holds `upTo n`. -/
theorem v67_apply (n : Fin 4097) : K_main_v67 (F := F) (ix1 n) = BitVec.ofNat 32 (upTo n.val) := by
  pointwise [K_main_v67, K_main_v66, K_main_v65, K_main_c_14, K_main_v64, K_main_v63, K_main_c_13, K_main_v62, K_main_v61, K_main_c_12, K_main_v60]
  have hn := n.isLt
  rw [Routing.remsi_word _ (by omega) (by norm_num) (by norm_num)]
  unfold upTo
  rcases Nat.mod_two_eq_zero_or_one n.val with h | h
  · rw [h, if_pos rfl]; rfl
  · rw [h, if_neg (by norm_num)]
    show BitVec.ofNat 32 n.val - 1#32 = _
    apply BitVec.eq_of_toNat_eq
    rw [BitVec.toNat_sub]
    simp only [BitVec.toNat_ofNat]
    omega

/-- The wrapped table is the table. -/
theorem b40_apply (j : ℕ) (s : State F) (n : Fin 4097) : b40 j s (ix1 n) = BitVec.ofNat 32 (upTo n.val) := by
  pointwise [b40, b39, b38, b37, b36, b35, b34, v67_apply]
  refine Routing.wrap_of_lt _ _ ?_
  have hn := n.isLt
  have hu : upTo n.val ≤ n.val := by unfold upTo; split <;> omega
  rw [BitVec.toNat_ofNat]
  norm_num
  omega

/-- The gather takes the table's entry. -/
theorem b42_apply (j : ℕ) (s : State F) (n : Fin 4097) (hn : upTo n.val < 4097) : b42 j s (ix1 n) = b29 j s (ix1 ⟨upTo n.val, hn⟩) := by
  have h : b41 j s (ix2 n 0) = BitVec.ofNat 32 (upTo n.val) := by
    rw [← b40_apply j s n]
    pointwise [b41]
  have h0 : (BitVec.ofNat 32 (upTo n.val)).toInt.toNat = upTo n.val := by
    rw [BitVec.toInt_eq_toNat_of_lt (by rw [BitVec.toNat_ofNat]; omega), BitVec.toNat_ofNat]
    omega
  rw [b42]
  refine (gather_row (N := 4097) (by norm_num) gather_S4097_S4097x1_S4097_n_0_n_n_0_1_1_wf (b29 j s) (b41 j s) n).trans ?_
  refine congrArg (b29 j s) (congrArg ix1 (Fin.ext ?_))
  show min _ 4096 = upTo n.val
  rw [h, h0]
  omega

end Cert.ReferenceIdeal.Val

end
-- ==== Proof.RefStep.lean ====
module

public import proofs.«01_k».proof.Proof.RefCost
public import proofs.«01_k».proof.Proof.RefIndex

@[expose] public section

noncomputable section

/-! # The reference's loop, in weights

    Before trip `j` the running cost of position `n` is `-1/1000` times the logarithm of the weight `V j n`. -/

namespace Cert.ReferenceIdeal.Val

open Idealize.ShloMosaic
open Cert.ReferenceIdeal Cert.ReferenceIdeal.Gen Cert.ReferenceIdeal.Step Cert.Weights Cert.Layout
open scoped NNReal

/-- The cost of a weight. -/
def loss (u : ℝ≥0) : EReal := ((-1 / 1000 : ℝ) : EReal) * L u

/-- The quotient of one by a thousand. -/
theorem div_one_thousand : Ideal.div (1 : EReal) ((1000 : ℝ) : EReal) = ((1 / 1000 : ℝ) : EReal) := by
  rw [Ideal.div_coe (by norm_num), one_mul]

/-- A cost divided by the step of the temperature, back to the logarithm. -/
theorem div_loss {u : ℝ≥0} (h : 0 < u) : Ideal.div (-loss u) ((1 / 1000 : ℝ) : EReal) = L u := by
  rw [loss, Ideal.div_coe (by norm_num), L_pos h, ← EReal.coe_mul, ← EReal.coe_neg, ← EReal.coe_mul]
  congr 1
  ring

/-- A real cost added to a cost is a factor of the weight. -/
theorem loss_add {u : ℝ≥0} (h : 0 < u) (c : ℝ) : loss u + (c : EReal) = loss (u * E (-(1000 * c))) := by
  rw [loss, loss, ← L_add_coe, L_pos h, ← EReal.coe_mul, ← EReal.coe_add, ← EReal.coe_add, ← EReal.coe_mul]
  congr 1
  ring

/-- A factor alone is its cost. -/
theorem loss_E (c : ℝ) : loss (E (-(1000 * c))) = (c : EReal) := by
  have h := loss_add (u := 1) one_pos c
  rw [one_mul, loss, L_one, mul_zero, zero_add] at h
  exact h.symm

variable {s : State Ideal} {j : ℕ} {v : ℕ → ℝ≥0}

/-- The reciprocal temperature's quotient in the trip. -/
theorem b6_apply (j : ℕ) (s : State Ideal) (x : S_.Idx) : b6 j s x = ((1 / 1000 : ℝ) : EReal) := by
  rw [← div_one_thousand]
  pointwise [b6, b4, b5, ofBits_thousand]

/-- The scale of the new cost. -/
theorem b33_apply (j : ℕ) (s : State Ideal) (x : S_.Idx) : b33 j s x = ((-1 / 1000 : ℝ) : EReal) := by
  have h : b33 j s x = -(Ideal.div (1 : EReal) ((1000 : ℝ) : EReal)) := by
    pointwise [b33, b32, b30, b31, ofBits_thousand]
  rw [h, div_one_thousand, ← EReal.coe_neg]
  congr 1
  ring

/-- The logarithms of the weights. -/
theorem b8_apply (hv : ∀ n, 0 < v n) (hs : ∀ n : Fin 4097, s.main_v71_3 (ix1 n) = loss (v n)) (n : Fin 4097) : b8 j s (ix1 n) = L (v n) := by
  have h : b8 j s (ix1 n) = Ideal.div (-(s.main_v71_3 (ix1 n))) (b6 j s ix0) := by
    pointwise [b8, b7, b3]
  rw [h, hs, b6_apply, div_loss (hv n)]

/-- The masked square. -/
theorem b17_apply (hv : ∀ n, 0 < v n) (hs : ∀ n : Fin 4097, s.main_v71_3 (ix1 n) = loss (v n)) (n k : Fin 4097) :
    b17 j s (ix2 n k) = L (if k.val ≤ n.val then v k else 0) := by
  have h : b17 j s (ix2 n k) = if k.val ≤ n.val then b8 j s (ix1 k) else ⊥ := by
    pointwise [b17, b16, b15, b14, b13, b12, b11, b10, b9, ofBits_bot]
    rw [WordCmp.cmpi_sle_ofNat (by have := k.isLt; omega) (by have := n.isLt; omega), WordCmp.select_decide]
  rw [h, b8_apply hv hs]
  split
  · rfl
  · exact L_zero.symm

/-- The row's largest entry. -/
theorem b19_apply (n : Fin 4097) : b19 j s (ix1 n) = Finset.univ.fold max (⊥ : EReal) fun k : Fin 4097 => b17 j s (ix2 n k) := by
  rw [b19, rowMax, show b18 j s (Shape.Idx.first h_S_) = (⊥ : EReal) from ofBits_bot]

/-- The exponentials about it. -/
theorem b23_apply (n k : Fin 4097) : b23 j s (ix2 n k) = Ideal.exp (b17 j s (ix2 n k) - b19 j s (ix1 n)) := by
  pointwise [b23, b22, b21, b20]

/-- Their sum. -/
theorem b25_apply (n : Fin 4097) : b25 j s (ix1 n) = 0 + ∑ k : Fin 4097, b23 j s (ix2 n k) := by
  rw [b25, rowSum, show b24 j s (Shape.Idx.first h_S_) = (0 : EReal) from Ideal.ofBits_zero_f32]

/-- A column's sum with a logarithm, laid flat. -/
theorem flat_lse (m t : FVec Ideal S4097 .f32) (n : Fin 4097) :
    shapeCast S4097 (addf (broadcastInDim S4097x1 ![0] bcast_S4097_S4097x1_0 m) (Host.log (broadcastInDim S4097x1 ![0] bcast_S4097_S4097x1_0 t)))
      shapeCasts_S4097x1_S4097 (ix1 n) = m (ix1 n) + Ideal.log (t (ix1 n)) := by
  pointwise

/-- The sum of the logarithm and the largest entry. -/
theorem b29_apply' (n : Fin 4097) : b29 j s (ix1 n) = b19 j s (ix1 n) + Ideal.log (b25 j s (ix1 n)) := by
  rw [b29, b28, b27, b26, b20]
  exact flat_lse (b19 j s) (b25 j s) n

/-- A sum over the positions up to one, as a range. -/
theorem sum_upto {N : ℕ} (v : ℕ → ℝ≥0) (n : Fin N) : (∑ k : Fin N, if k.val ≤ n.val then v k else 0) = ∑ k ∈ Finset.range (n.val + 1), v k := by
  rw [Fin.sum_univ_eq_sum_range (fun k => if k ≤ n.val then v k else 0) N, ← Finset.sum_filter]
  refine Finset.sum_congr (Finset.ext fun k => ?_) fun _ _ => rfl
  have hn := n.isLt
  simp only [Finset.mem_filter, Finset.mem_range]
  omega

/-- The weights up to a position, added. -/
theorem b29_apply (hv : ∀ n, 0 < v n) (hs : ∀ n : Fin 4097, s.main_v71_3 (ix1 n) = loss (v n)) (n : Fin 4097) :
    b29 j s (ix1 n) = L (∑ k ∈ Finset.range (n.val + 1), v k) := by
  rw [b29_apply', ← sum_upto]
  exact lseParts (b19_apply n) (b23_apply n) (b25_apply n) (b17_apply hv hs n)

/-- The row of costs a trip takes. -/
theorem b2_apply (hj : j < 2047) (n : Fin 4097) : b2 j s (ix1 n) = s.main_v71_0 (ix2 ⟨j, hj⟩ n) := by
  have h : b2 j s (ix1 n) = b1 j s (ix2 0 n) := by
    pointwise [b2]
  rw [h, b1]
  refine (Host.dynamicSlice_apply _ _ _ _).trans ?_
  refine congrArg s.main_v71_0 ?_
  have hj' : BitVec.toInt (BitVec.ofNat 32 j) = (j : ℤ) := by
    rw [BitVec.toInt_eq_toNat_of_lt (by rw [BitVec.toNat_ofNat]; omega), BitVec.toNat_ofNat]
    omega
  refine (Shape.Idx.norm_def _).trans ?_
  funext a
  refine Fin.ext ?_
  match a with
  | ⟨0, _⟩ =>
    show Host.clampedStart _ _ _ _ _ + 0 = j
    rw [Host.clampedStart_of_le _ _ _ j hj' (show j + 1 ≤ 2047 by omega), Nat.add_zero]
  | ⟨1, _⟩ =>
    show Host.clampedStart _ _ _ _ _ + n.val = n.val
    rw [Host.clampedStart_of_le _ _ _ 0 rfl (show 0 + 4097 ≤ 4097 by omega), zero_add]

/-- One trip. -/
theorem b45_apply (hj : j < 2047) {c : ℕ → ℝ} (hv : ∀ n, 0 < v n) (hs : ∀ n : Fin 4097, s.main_v71_3 (ix1 n) = loss (v n))
    (hc : ∀ n : Fin 4097, s.main_v71_0 (ix2 ⟨j, hj⟩ n) = ((c n : ℝ) : EReal)) (n : Fin 4097) :
    b45 j s (ix1 n) = loss ((∑ k ∈ Finset.range (upTo n.val + 1), v k) * E (-(1000 * c n))) := by
  have hu : upTo n.val < 4097 := by have := n.isLt; unfold upTo; split <;> omega
  have h : b45 j s (ix1 n) = b33 j s ix0 * b42 j s (ix1 n) + b2 j s (ix1 n) := by
    pointwise [b45, b44, b43]
  rw [h, b33_apply, b42_apply j s n hu, b29_apply hv hs, b2_apply hj, hc, ← loss_add, loss]
  exact Finset.sum_pos (fun k _ => hv k) ⟨0, Finset.mem_range.mpr (Nat.succ_pos _)⟩

variable (a0 a1 : (⟨S2048x513, .f32⟩ : BufTy).Contents (Elt Ideal))

/-- The states of the loop. -/
def iter : ℕ → State Ideal
  | 0 => init a0 a1
  | n + 1 => step n (iter n)

/-- The rows of costs never change. -/
theorem iter_rows (t : ℕ) (i : Fin 2047) (n : Fin 4097) :
    (iter a0 a1 t).main_v71_0 (ix2 i n) = ((C (arrA a0 a1) (arrB a0 a1) (i.val + 1) n.val : ℝ) : EReal) := by
  induction t with
  | zero =>
    rw [← v59_apply a0 a1 ⟨i.val + 1, by omega⟩ n]
    show A_main_v70 a0 a1 (ix2 i n) = _
    pointwise [A_main_v70]
    refine congrArg (A_main_v59 a0 a1) (congrArg (fun x => ix2 x n) (Fin.ext (Nat.add_comm 1 i.val)))
  | succ t ih => exact ih

/-- The running costs. -/
theorem iter_cost (t : ℕ) (ht : t ≤ 2047) (n : Fin 4097) :
    (iter a0 a1 t).main_v71_3 (ix1 n) = loss (V (q (arrA a0 a1) (arrB a0 a1)) (r (arrA a0 a1) (arrB a0 a1)) t n.val) := by
  induction t generalizing n with
  | zero =>
    rw [V, fac_C, loss_E]
    refine Eq.trans ?_ (v59_apply a0 a1 0 n)
    show A_main_v69 a0 a1 (ix1 n) = _
    pointwise [A_main_v69, A_main_v68]
  | succ t ih =>
    show b45 t (iter a0 a1 t) (ix1 n) = _
    rw [b45_apply (j := t) (by omega) (c := C (arrA a0 a1) (arrB a0 a1) (t + 1)) (V_pos (arrA a0 a1) (arrB a0 a1) t) (fun n => ih (by omega) n)
      (fun n => iter_rows a0 a1 t _ n), V, fac_C]

/-- The rank-one largest entry. -/
theorem allMax {n : ℕ} {u : Shape} (x : (⟨1, ![n]⟩ : Shape).Idx → EReal) (init : u.Idx → EReal)
    (h : (⟨1, ![n]⟩ : Shape).ReducesTo [0] ⟨0, ![]⟩) (hu : 0 < u.numel) (i : (⟨0, ![]⟩ : Shape).Idx) :
    Host.reduce (FloatOps.maximumf (F := Ideal) (φ := .f32)) x init h hu i
      = Finset.univ.fold max (init (Shape.Idx.first hu)) fun k : Fin n => x (ix1 k) := by
  pointwise

/-- The rank-one total. -/
theorem allSum {n : ℕ} {u : Shape} (x : FVec Ideal (⟨1, ![n]⟩ : Shape) .f32) (init : FVec Ideal u .f32)
    (h : (⟨1, ![n]⟩ : Shape).ReducesTo [0] ⟨0, ![]⟩) (hu : 0 < u.numel) (i : (⟨0, ![]⟩ : Shape).Idx) :
    Host.reduceAdd x init h hu i = init (Shape.Idx.first hu) + ∑ k : Fin n, x (ix1 k) := by
  pointwise

/-- The largest of all the logarithms. -/
def allM (s : State Ideal) : S_.Idx → EReal :=
  Host.reduce (FloatOps.maximumf (F := Ideal) (φ := .f32)) (b8 0 s) (b18 0 s) reducesTo_S4097_S_d0 h_S_

/-- The exponentials about it. -/
def allE (s : State Ideal) : FVec Ideal S4097 .f32 :=
  Host.exp (subf (b8 0 s) (broadcastInDim S4097 ![0] bcast_S1_S4097_0 (broadcastInDim S1 ![] bcast_S_S1 (allM s))))

/-- The last operations at their index. -/
theorem shape_end (g m t : FVec Ideal S_ .f32) (i : S_.Idx) :
    mulf g (shapeCast S_ (addf (broadcastInDim S1 ![] bcast_S_S1 m) (Host.log (broadcastInDim S1 ![] bcast_S_S1 t))) shapeCasts_S1_S_) i
      = g ix0 * (m ix0 + Ideal.log (t ix0)) := by
  obtain rfl : i = ix0 := Subsingleton.elim _ _
  pointwise

/-- The result of a state whose costs are those of the weights `v`. -/
theorem result_of {v : ℕ → ℝ≥0} {s : State Ideal} (hv : ∀ n, 0 < v n) (hs : ∀ n : Fin 4097, s.main_v71_3 (ix1 n) = loss (v n)) (i : S_.Idx) :
    R_main_v88 s i = loss (∑ k ∈ Finset.range 4097, v k) := by
  have h8 : ∀ n : Fin 4097, b8 0 s (ix1 n) = L (v n) := b8_apply hv hs
  have hR : R_main_v88 s i = b33 0 s ix0 * (allM s ix0 + Ideal.log (Host.reduceAdd (allE s) (b24 0 s) reducesTo_S4097_S_d0 h_S_ ix0)) := by
    rw [← shape_end]
    rfl
  rw [hR, b33_apply, loss, ← Fin.sum_univ_eq_sum_range v 4097]
  refine congrArg _ (lseParts (f := fun k : Fin 4097 => b8 0 s (ix1 k)) (g := fun k : Fin 4097 => allE s (ix1 k)) ?_ ?_ ?_ (b8_apply hv hs))
  · rw [allM, allMax, show b18 0 s (Shape.Idx.first h_S_) = (⊥ : EReal) from ofBits_bot]
  · intro k
    pointwise [allE]
  · rw [allSum, show b24 0 s (Shape.Idx.first h_S_) = (0 : EReal) from Ideal.ofBits_zero_f32]

/-- The loop's last state gives the loss. -/
theorem result_apply (i : S_.Idx) : R_main_v88 (iter a0 a1 2047) i = answer (arrA a0 a1) (arrB a0 a1) := by
  rw [result_of (V_pos (arrA a0 a1) (arrB a0 a1) 2047) (iter_cost a0 a1 2047 le_rfl), sum_V _ _ 2047 2048]
  rfl

end Cert.ReferenceIdeal.Val

end
-- ==== Proof.lean ====
module

public import proofs.«01_k».proof.Defs
public import proofs.«01_k».proof.Proof.KernelRunP
public import proofs.«01_k».proof.Proof.KernelValue
public import proofs.«01_k».proof.Proof.RefFrame
public import proofs.«01_k».proof.Proof.RefRun
public import proofs.«01_k».proof.Proof.RefStep

@[expose] public section

noncomputable section

/-! # The claim, assembled -/

namespace Cert.Proof

open Idealize.ShloMosaic Idealize.SL.Sem

/-- Over the extended reals, from equal arguments, the kernel and the reference end with the same loss: both end
    with `answer` of the two sorted arrays. -/
theorem algebraic [Cert.KernelIdeal.Facts] [Cert.ReferenceIdeal.Facts] : Cert.algebraic_KernelIdeal_ReferenceIdeal := by
  intro m g m' g' _ hargs
  refine ⟨fun c => fun _ => Cert.Weights.answer (Cert.KernelIdeal.Val.sortA m c) (Cert.KernelIdeal.Val.sortB m c), ?_, ?_⟩
  · refine (θ_run _ _ _).mono (fun r h c => ?_) (Cert.KernelIdeal.Hand.run m g)
    exact ⟨(h.1 c).1.trans (Cert.KernelIdeal.Val.returns_loss m g c), (h.1 c).2⟩
  · refine (θ_run _ _ _).mono (fun r h c => ?_) (Cert.ReferenceIdeal.RefRun.run_iter m' g'
      (fun c => Cert.ReferenceIdeal.Val.iter (m' (c.tc.loc Cert.ReferenceIdeal.main_arg0)) (m' (c.tc.loc Cert.ReferenceIdeal.main_arg1)))
      (fun _ => rfl) (fun _ _ => rfl))
    refine ⟨(h c).1.trans ?_, (h c).2⟩
    rw [(hargs c).1, (hargs c).2]
    exact funext fun i => Cert.ReferenceIdeal.Val.result_apply _ _ i

/-- The three programs run and leave their arguments alone, the two named constants are the ones replaced, and the
    kernel returns the reference's loss. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.RefRun.frame m g,
  ⟨IdealRules.named_const.statement Cert.KernelIdeal.κ "mask" .f32 0xF149F2CA#32 ⊥ rfl,
   IdealRules.named_const.statement Cert.KernelIdeal.κ "neg_gamma" .f32 0xBA83126F#32 ((-1 / 1000 : ℝ) : EReal) rfl⟩,
  algebraic⟩

end Cert.Proof

end
